-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S12x256x1024 : Shape := ⟨3, ![12, 256, 1024]⟩
abbrev S8x256x1024 : Shape := ⟨3, ![8, 256, 1024]⟩
abbrev S2x256x1024 : Shape := ⟨3, ![2, 256, 1024]⟩
abbrev S4x256x1024 : Shape := ⟨3, ![4, 256, 1024]⟩
abbrev S4 : Shape := ⟨1, ![4]⟩
abbrev S12 : Shape := ⟨1, ![12]⟩
abbrev S8 : Shape := ⟨1, ![8]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 2
  | .vmem => 11
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S12x256x1024, .bf16⟩
  | .local _ .vmem, ⟨1, _⟩ => ⟨S8x256x1024, .bf16⟩
  | .local _ .vmem, ⟨2, _⟩ => ⟨S12x256x1024, .bf16⟩
  | .local _ .vmem, ⟨3, _⟩ => ⟨S2x256x1024, .f32⟩
  | .local _ .vmem, ⟨4, _⟩ => ⟨S4x256x1024, .bf16⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S2x256x1024, .bf16⟩
  | .local _ .vmem, ⟨9, _⟩ => ⟨S2x256x1024, .bf16⟩
  | .local _ .vmem, ⟨10, _⟩ => ⟨S2x256x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_24 : BitVec 32 := 0#32
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_23 : BitVec 32 := 1024#32
  let v36 : BitVec 32 := Scalar.muli v17 c1024_i32_23
  let v37 : BitVec 32 := Scalar.addi v36 c0_i32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c1024_i32_7 : BitVec 32 := 1024#32
  let v14 : BitVec 32 := Scalar.muli v13 c1024_i32_7
  ![0, v37.toNat, v14.toNat]
def k0_off2 (d0 : Dev nD) (c0_i32_30 : BitVec 32) : Fin 3 → Nat :=
  let c0_i32_31 : BitVec 32 := 0#32
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_29 : BitVec 32 := 1024#32
  let v44 : BitVec 32 := Scalar.muli v17 c1024_i32_29
  let v45 : BitVec 32 := Scalar.addi v44 c0_i32_30
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v45.toNat, v12.toNat]
def k0_off3 (d0 : Dev nD) (c0_i32_37 : BitVec 32) : Fin 3 → Nat :=
  let c0_i32_38 : BitVec 32 := 0#32
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c1024_i32_36 : BitVec 32 := 1024#32
  let v52 : BitVec 32 := Scalar.muli v22 c1024_i32_36
  let v53 : BitVec 32 := Scalar.addi v52 c0_i32_37
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v53.toNat, v12.toNat]
def k0_off4 (d0 : Dev nD) (c0_i32_44 : BitVec 32) : Fin 3 → Nat :=
  let c0_i32_45 : BitVec 32 := 0#32
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_15 v5
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_16 v8
  let v28 : BitVec 32 := Scalar.addi v26 v27
  let c1024_i32_43 : BitVec 32 := 1024#32
  let v60 : BitVec 32 := Scalar.muli v28 c1024_i32_43
  let v61 : BitVec 32 := Scalar.addi v60 c0_i32_44
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v61.toNat, v12.toNat]
def k0_dev1 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v69 : BitVec 32 := Scalar.muli v9 c4_i32_51
  let v70 : BitVec 32 := Scalar.addi c0_i32_52 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v71 : BitVec 32 := Scalar.muli v5 c2_i32_53
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v73 : BitVec 32 := Scalar.muli v8 c1_i32_54
  let v74 : BitVec 32 := Scalar.addi v72 v73
  v74.toNat
def k0_dev2 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v75 : BitVec 32 := Scalar.muli v2 c4_i32_56
  let v76 : BitVec 32 := Scalar.addi c0_i32_57 v75
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_58 : BitVec 32 := 2#32
  let v77 : BitVec 32 := Scalar.muli v10 c2_i32_58
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v79 : BitVec 32 := Scalar.muli v8 c1_i32_59
  let v80 : BitVec 32 := Scalar.addi v78 v79
  v80.toNat
def k0_dev3 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v81 : BitVec 32 := Scalar.muli v2 c4_i32_61
  let v82 : BitVec 32 := Scalar.addi c0_i32_62 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v83 : BitVec 32 := Scalar.muli v5 c2_i32_63
  let v84 : BitVec 32 := Scalar.addi v82 v83
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_64 : BitVec 32 := 1#32
  let v85 : BitVec 32 := Scalar.muli v11 c1_i32_64
  let v86 : BitVec 32 := Scalar.addi v84 v85
  v86.toNat
def k0_off5 (d0 : Dev nD) (c4_i32_9 : BitVec 32) (c6_i32 : BitVec 32) (c0_i32_66 : BitVec 32) : Fin 3 → Nat :=
  let c0_i32_67 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 1 := Scalar.cmpi .eq v5 v8
  let v18 : BitVec 32 := Scalar.select v15 c4_i32_9 c6_i32
  let c1024_i32_65 : BitVec 32 := 1024#32
  let v87 : BitVec 32 := Scalar.muli v18 c1024_i32_65
  let v88 : BitVec 32 := Scalar.addi v87 c0_i32_66
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c1024_i32_7 : BitVec 32 := 1024#32
  let v14 : BitVec 32 := Scalar.muli v13 c1024_i32_7
  ![0, v88.toNat, v14.toNat]
def k0_off5_at (r : Fin 8) : BitVec 32 × BitVec 32 × BitVec 32 :=
  if r.val < 4 then
    if r.val < 2 then
      if r.val < 1 then
        (4#32, 6#32, 0#32)
      else
        (5#32, 7#32, 0#32)
    else
      if r.val < 3 then
        (4#32, 6#32, 256#32)
      else
        (5#32, 7#32, 256#32)
  else
    if r.val < 6 then
      if r.val < 5 then
        (4#32, 6#32, 512#32)
      else
        (5#32, 7#32, 512#32)
    else
      if r.val < 7 then
        (4#32, 6#32, 768#32)
      else
        (5#32, 7#32, 768#32)
def k0_dev4 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v109 : BitVec 32 := Scalar.muli v9 c4_i32_88
  let v110 : BitVec 32 := Scalar.addi c0_i32_89 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v111 : BitVec 32 := Scalar.muli v5 c2_i32_90
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v113 : BitVec 32 := Scalar.muli v8 c1_i32_91
  let v114 : BitVec 32 := Scalar.addi v112 v113
  v114.toNat
def k0_dev5 (d0 : Dev nD) : Nat :=
  let c0_i32_120 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_119 : BitVec 32 := 4#32
  let v145 : BitVec 32 := Scalar.muli v9 c4_i32_119
  let v146 : BitVec 32 := Scalar.addi c0_i32_120 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v147 : BitVec 32 := Scalar.muli v5 c2_i32_121
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v149 : BitVec 32 := Scalar.muli v8 c1_i32_122
  let v150 : BitVec 32 := Scalar.addi v148 v149
  v150.toNat
def k0_dev6 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v171 : BitVec 32 := Scalar.muli v2 c4_i32_143
  let v172 : BitVec 32 := Scalar.addi c0_i32_144 v171
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_145 : BitVec 32 := 2#32
  let v173 : BitVec 32 := Scalar.muli v10 c2_i32_145
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v175 : BitVec 32 := Scalar.muli v8 c1_i32_146
  let v176 : BitVec 32 := Scalar.addi v174 v175
  v176.toNat
def k0_dev7 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v185 : BitVec 32 := Scalar.muli v2 c4_i32_155
  let v186 : BitVec 32 := Scalar.addi c0_i32_156 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v187 : BitVec 32 := Scalar.muli v5 c2_i32_157
  let v188 : BitVec 32 := Scalar.addi v186 v187
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_158 : BitVec 32 := 1#32
  let v189 : BitVec 32 := Scalar.muli v11 c1_i32_158
  let v190 : BitVec 32 := Scalar.addi v188 v189
  v190.toNat
def k0_off6 (d0 : Dev nD) (c4_i32_9 : BitVec 32) (c6_i32 : BitVec 32) (c0_i32_171 : BitVec 32) : Fin 3 → Nat :=
  let c0_i32_172 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 1 := Scalar.cmpi .eq v5 v8
  let v18 : BitVec 32 := Scalar.select v15 c4_i32_9 c6_i32
  let c1024_i32_170 : BitVec 32 := 1024#32
  let v207 : BitVec 32 := Scalar.muli v18 c1024_i32_170
  let v208 : BitVec 32 := Scalar.addi v207 c0_i32_171
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v208.toNat, v12.toNat]
def k0_off6_at (r : Fin 8) : BitVec 32 × BitVec 32 × BitVec 32 :=
  if r.val < 4 then
    if r.val < 2 then
      if r.val < 1 then
        (4#32, 6#32, 0#32)
      else
        (5#32, 7#32, 0#32)
    else
      if r.val < 3 then
        (4#32, 6#32, 256#32)
      else
        (5#32, 7#32, 256#32)
  else
    if r.val < 6 then
      if r.val < 5 then
        (4#32, 6#32, 512#32)
      else
        (5#32, 7#32, 512#32)
    else
      if r.val < 7 then
        (4#32, 6#32, 768#32)
      else
        (5#32, 7#32, 768#32)
def k0_off7 (d0 : Dev nD) (c0_i32_187 : BitVec 32) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_186 : BitVec 32 := 1024#32
  let v225 : BitVec 32 := Scalar.muli v17 c1024_i32_186
  let v226 : BitVec 32 := Scalar.addi v225 c0_i32_187
  let c0_i32_190 : BitVec 32 := 0#32
  ![v226.toNat, 0]
def k0_dev8 (d0 : Dev nD) : Nat :=
  let c0_i32_216 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_215 : BitVec 32 := 4#32
  let v254 : BitVec 32 := Scalar.muli v9 c4_i32_215
  let v255 : BitVec 32 := Scalar.addi c0_i32_216 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v256 : BitVec 32 := Scalar.muli v5 c2_i32_217
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v258 : BitVec 32 := Scalar.muli v8 c1_i32_218
  let v259 : BitVec 32 := Scalar.addi v257 v258
  v259.toNat
def k0_dev9 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v280 : BitVec 32 := Scalar.muli v2 c4_i32_239
  let v281 : BitVec 32 := Scalar.addi c0_i32_240 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v282 : BitVec 32 := Scalar.muli v5 c2_i32_241
  let v283 : BitVec 32 := Scalar.addi v281 v282
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_242 : BitVec 32 := 1#32
  let v284 : BitVec 32 := Scalar.muli v11 c1_i32_242
  let v285 : BitVec 32 := Scalar.addi v283 v284
  v285.toNat
def k0_off8 (d0 : Dev nD) (c4_i32_9 : BitVec 32) (c6_i32 : BitVec 32) (c0_i32_271 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 1 := Scalar.cmpi .eq v5 v8
  let v18 : BitVec 32 := Scalar.select v15 c4_i32_9 c6_i32
  let c1024_i32_270 : BitVec 32 := 1024#32
  let v320 : BitVec 32 := Scalar.muli v18 c1024_i32_270
  let v321 : BitVec 32 := Scalar.addi v320 c0_i32_271
  let c0_i32_274 : BitVec 32 := 0#32
  ![v321.toNat, 0]
def k0_off8_at (r : Fin 8) : BitVec 32 × BitVec 32 × BitVec 32 :=
  if r.val < 4 then
    if r.val < 2 then
      if r.val < 1 then
        (4#32, 6#32, 0#32)
      else
        (5#32, 7#32, 0#32)
    else
      if r.val < 3 then
        (4#32, 6#32, 256#32)
      else
        (5#32, 7#32, 256#32)
  else
    if r.val < 6 then
      if r.val < 5 then
        (4#32, 6#32, 512#32)
      else
        (5#32, 7#32, 512#32)
    else
      if r.val < 7 then
        (4#32, 6#32, 768#32)
      else
        (5#32, 7#32, 768#32)
def k0_dev10 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v339 : BitVec 32 := Scalar.muli v2 c4_i32_293
  let v340 : BitVec 32 := Scalar.addi c0_i32_294 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v341 : BitVec 32 := Scalar.muli v5 c2_i32_295
  let v342 : BitVec 32 := Scalar.addi v340 v341
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_296 : BitVec 32 := 1#32
  let v343 : BitVec 32 := Scalar.muli v11 c1_i32_296
  let v344 : BitVec 32 := Scalar.addi v342 v343
  v344.toNat
def k0_off9 (d0 : Dev nD) (c0_i32_325 : BitVec 32) : Fin 2 → Nat :=
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v21 : BitVec 32 := Scalar.muli c2_i32_11 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c1024_i32_324 : BitVec 32 := 1024#32
  let v379 : BitVec 32 := Scalar.muli v22 c1024_i32_324
  let v380 : BitVec 32 := Scalar.addi v379 c0_i32_325
  let c0_i32_328 : BitVec 32 := 0#32
  ![v380.toNat, 0]
def k0_dev11 (d0 : Dev nD) : Nat :=
  let c0_i32_355 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_354 : BitVec 32 := 4#32
  let v408 : BitVec 32 := Scalar.muli v9 c4_i32_354
  let v409 : BitVec 32 := Scalar.addi c0_i32_355 v408
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v410 : BitVec 32 := Scalar.muli v5 c2_i32_356
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v412 : BitVec 32 := Scalar.muli v8 c1_i32_357
  let v413 : BitVec 32 := Scalar.addi v411 v412
  v413.toNat
def k0_dev12 (d0 : Dev nD) : Nat :=
  let c0_i32_379 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_378 : BitVec 32 := 4#32
  let v434 : BitVec 32 := Scalar.muli v2 c4_i32_378
  let v435 : BitVec 32 := Scalar.addi c0_i32_379 v434
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_380 : BitVec 32 := 2#32
  let v436 : BitVec 32 := Scalar.muli v10 c2_i32_380
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_381 : BitVec 32 := 1#32
  let v438 : BitVec 32 := Scalar.muli v8 c1_i32_381
  let v439 : BitVec 32 := Scalar.addi v437 v438
  v439.toNat
def k0_dev13 (d0 : Dev nD) : Nat :=
  let c0_i32_455 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_454 : BitVec 32 := 4#32
  let v514 : BitVec 32 := Scalar.muli v9 c4_i32_454
  let v515 : BitVec 32 := Scalar.addi c0_i32_455 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v516 : BitVec 32 := Scalar.muli v5 c2_i32_456
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_457 : BitVec 32 := 1#32
  let v518 : BitVec 32 := Scalar.muli v8 c1_i32_457
  let v519 : BitVec 32 := Scalar.addi v517 v518
  v519.toNat
def k0_dev14 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v540 : BitVec 32 := Scalar.muli v2 c4_i32_478
  let v541 : BitVec 32 := Scalar.addi c0_i32_479 v540
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_480 : BitVec 32 := 2#32
  let v542 : BitVec 32 := Scalar.muli v10 c2_i32_480
  let v543 : BitVec 32 := Scalar.addi v541 v542
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v544 : BitVec 32 := Scalar.muli v8 c1_i32_481
  let v545 : BitVec 32 := Scalar.addi v543 v544
  v545.toNat
def k0_dev15 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v554 : BitVec 32 := Scalar.muli v2 c4_i32_490
  let v555 : BitVec 32 := Scalar.addi c0_i32_491 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v556 : BitVec 32 := Scalar.muli v5 c2_i32_492
  let v557 : BitVec 32 := Scalar.addi v555 v556
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_493 : BitVec 32 := 1#32
  let v558 : BitVec 32 := Scalar.muli v11 c1_i32_493
  let v559 : BitVec 32 := Scalar.addi v557 v558
  v559.toNat
def k0_off10 (d0 : Dev nD) (c0_i32_553 : BitVec 32) : Fin 3 → Nat :=
  let c0_i32_554 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_17 v8
  let v30 : BitVec 1 := Scalar.cmpi .eq v5 v29
  let c4_i32_18 : BitVec 32 := 4#32
  let c6_i32_19 : BitVec 32 := 6#32
  let v31 : BitVec 32 := Scalar.select v30 c4_i32_18 c6_i32_19
  let c1024_i32_552 : BitVec 32 := 1024#32
  let v626 : BitVec 32 := Scalar.muli v31 c1024_i32_552
  let v627 : BitVec 32 := Scalar.addi v626 c0_i32_553
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v627.toNat, v12.toNat]
def k0_off11 (d0 : Dev nD) (c0_i32_569 : BitVec 32) : Fin 2 → Nat :=
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_15 v5
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_16 v8
  let v28 : BitVec 32 := Scalar.addi v26 v27
  let c1024_i32_568 : BitVec 32 := 1024#32
  let v644 : BitVec 32 := Scalar.muli v28 c1024_i32_568
  let v645 : BitVec 32 := Scalar.addi v644 c0_i32_569
  let c0_i32_572 : BitVec 32 := 0#32
  ![v645.toNat, 0]
def k0_dev16 (d0 : Dev nD) : Nat :=
  let c0_i32_608 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_607 : BitVec 32 := 4#32
  let v679 : BitVec 32 := Scalar.muli v9 c4_i32_607
  let v680 : BitVec 32 := Scalar.addi c0_i32_608 v679
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_609 : BitVec 32 := 2#32
  let v681 : BitVec 32 := Scalar.muli v5 c2_i32_609
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_610 : BitVec 32 := 1#32
  let v683 : BitVec 32 := Scalar.muli v8 c1_i32_610
  let v684 : BitVec 32 := Scalar.addi v682 v683
  v684.toNat
def k0_dev17 (d0 : Dev nD) : Nat :=
  let c0_i32_632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_631 : BitVec 32 := 4#32
  let v705 : BitVec 32 := Scalar.muli v2 c4_i32_631
  let v706 : BitVec 32 := Scalar.addi c0_i32_632 v705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_633 : BitVec 32 := 2#32
  let v707 : BitVec 32 := Scalar.muli v5 c2_i32_633
  let v708 : BitVec 32 := Scalar.addi v706 v707
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_634 : BitVec 32 := 1#32
  let v709 : BitVec 32 := Scalar.muli v11 c1_i32_634
  let v710 : BitVec 32 := Scalar.addi v708 v709
  v710.toNat
def k0_dev18 (d0 : Dev nD) : Nat :=
  let c0_i32_690 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_689 : BitVec 32 := 4#32
  let v769 : BitVec 32 := Scalar.muli v2 c4_i32_689
  let v770 : BitVec 32 := Scalar.addi c0_i32_690 v769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_691 : BitVec 32 := 2#32
  let v771 : BitVec 32 := Scalar.muli v5 c2_i32_691
  let v772 : BitVec 32 := Scalar.addi v770 v771
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_692 : BitVec 32 := 1#32
  let v773 : BitVec 32 := Scalar.muli v11 c1_i32_692
  let v774 : BitVec 32 := Scalar.addi v772 v773
  v774.toNat
def k0_off12 (d0 : Dev nD) (c0_i32_705 : BitVec 32) : Fin 3 → Nat :=
  let c0_i32_706 : BitVec 32 := 0#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_12 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 1 := Scalar.cmpi .eq v23 v8
  let c5_i32_13 : BitVec 32 := 5#32
  let c7_i32_14 : BitVec 32 := 7#32
  let v25 : BitVec 32 := Scalar.select v24 c5_i32_13 c7_i32_14
  let c1024_i32_704 : BitVec 32 := 1024#32
  let v791 : BitVec 32 := Scalar.muli v25 c1024_i32_704
  let v792 : BitVec 32 := Scalar.addi v791 c0_i32_705
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v792.toNat, v12.toNat]
def k0_off13 (d0 : Dev nD) (c0_i32_747 : BitVec 32) : Fin 3 → Nat :=
  let c0_i32_748 : BitVec 32 := 0#32
  let c2_i32_21 : BitVec 32 := 2#32
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let v33 : BitVec 32 := Scalar.muli c2_i32_21 v32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_22 v8
  let v35 : BitVec 32 := Scalar.addi v33 v34
  let c1024_i32_746 : BitVec 32 := 1024#32
  let v836 : BitVec 32 := Scalar.muli v35 c1024_i32_746
  let v837 : BitVec 32 := Scalar.addi v836 c0_i32_747
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  ![0, v837.toNat, v12.toNat]
def k0_off14 (d0 : Dev nD) (c0_i32_763 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_17 v8
  let v30 : BitVec 1 := Scalar.cmpi .eq v5 v29
  let c4_i32_18 : BitVec 32 := 4#32
  let c6_i32_19 : BitVec 32 := 6#32
  let v31 : BitVec 32 := Scalar.select v30 c4_i32_18 c6_i32_19
  let c1024_i32_762 : BitVec 32 := 1024#32
  let v854 : BitVec 32 := Scalar.muli v31 c1024_i32_762
  let v855 : BitVec 32 := Scalar.addi v854 c0_i32_763
  let c0_i32_766 : BitVec 32 := 0#32
  ![v855.toNat, 0]
def k0_off15 (d0 : Dev nD) (c0_i32_810 : BitVec 32) : Fin 2 → Nat :=
  let c2_i32_21 : BitVec 32 := 2#32
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let v33 : BitVec 32 := Scalar.muli c2_i32_21 v32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_22 v8
  let v35 : BitVec 32 := Scalar.addi v33 v34
  let c1024_i32_809 : BitVec 32 := 1024#32
  let v904 : BitVec 32 := Scalar.muli v35 c1024_i32_809
  let v905 : BitVec 32 := Scalar.addi v904 c0_i32_810
  let c0_i32_813 : BitVec 32 := 0#32
  ![v905.toNat, 0]
def k0_dev19 (d0 : Dev nD) : Nat :=
  let c0_i32_850 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_849 : BitVec 32 := 4#32
  let v939 : BitVec 32 := Scalar.muli v9 c4_i32_849
  let v940 : BitVec 32 := Scalar.addi c0_i32_850 v939
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_851 : BitVec 32 := 2#32
  let v941 : BitVec 32 := Scalar.muli v5 c2_i32_851
  let v942 : BitVec 32 := Scalar.addi v940 v941
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v943 : BitVec 32 := Scalar.muli v8 c1_i32_852
  let v944 : BitVec 32 := Scalar.addi v942 v943
  v944.toNat
def k0_dev20 (d0 : Dev nD) : Nat :=
  let c0_i32_874 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_873 : BitVec 32 := 4#32
  let v965 : BitVec 32 := Scalar.muli v2 c4_i32_873
  let v966 : BitVec 32 := Scalar.addi c0_i32_874 v965
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_875 : BitVec 32 := 2#32
  let v967 : BitVec 32 := Scalar.muli v10 c2_i32_875
  let v968 : BitVec 32 := Scalar.addi v966 v967
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_876 : BitVec 32 := 1#32
  let v969 : BitVec 32 := Scalar.muli v8 c1_i32_876
  let v970 : BitVec 32 := Scalar.addi v968 v969
  v970.toNat
def k0_off16 (d0 : Dev nD) (c0_i32_956 : BitVec 32) : Fin 2 → Nat :=
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_12 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 1 := Scalar.cmpi .eq v23 v8
  let c5_i32_13 : BitVec 32 := 5#32
  let c7_i32_14 : BitVec 32 := 7#32
  let v25 : BitVec 32 := Scalar.select v24 c5_i32_13 c7_i32_14
  let c1024_i32_955 : BitVec 32 := 1024#32
  let v1060 : BitVec 32 := Scalar.muli v25 c1024_i32_955
  let v1061 : BitVec 32 := Scalar.addi v1060 c0_i32_956
  let c0_i32_959 : BitVec 32 := 0#32
  ![v1061.toNat, 0]
def k0_dev21 (d0 : Dev nD) : Nat :=
  let c0_i32_996 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_995 : BitVec 32 := 4#32
  let v1095 : BitVec 32 := Scalar.muli v9 c4_i32_995
  let v1096 : BitVec 32 := Scalar.addi c0_i32_996 v1095
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_997 : BitVec 32 := 2#32
  let v1097 : BitVec 32 := Scalar.muli v5 c2_i32_997
  let v1098 : BitVec 32 := Scalar.addi v1096 v1097
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_998 : BitVec 32 := 1#32
  let v1099 : BitVec 32 := Scalar.muli v8 c1_i32_998
  let v1100 : BitVec 32 := Scalar.addi v1098 v1099
  v1100.toNat
def k0_dev22 (d0 : Dev nD) : Nat :=
  let c0_i32_1020 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1019 : BitVec 32 := 4#32
  let v1121 : BitVec 32 := Scalar.muli v2 c4_i32_1019
  let v1122 : BitVec 32 := Scalar.addi c0_i32_1020 v1121
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1021 : BitVec 32 := 2#32
  let v1123 : BitVec 32 := Scalar.muli v10 c2_i32_1021
  let v1124 : BitVec 32 := Scalar.addi v1122 v1123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1022 : BitVec 32 := 1#32
  let v1125 : BitVec 32 := Scalar.muli v8 c1_i32_1022
  let v1126 : BitVec 32 := Scalar.addi v1124 v1125
  v1126.toNat
def k0_dev23 (d0 : Dev nD) : Nat :=
  let c0_i32_1032 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1031 : BitVec 32 := 4#32
  let v1135 : BitVec 32 := Scalar.muli v2 c4_i32_1031
  let v1136 : BitVec 32 := Scalar.addi c0_i32_1032 v1135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1033 : BitVec 32 := 2#32
  let v1137 : BitVec 32 := Scalar.muli v5 c2_i32_1033
  let v1138 : BitVec 32 := Scalar.addi v1136 v1137
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1034 : BitVec 32 := 1#32
  let v1139 : BitVec 32 := Scalar.muli v11 c1_i32_1034
  let v1140 : BitVec 32 := Scalar.addi v1138 v1139
  v1140.toNat
def k0_dev24 (d0 : Dev nD) : Nat :=
  let c0_i32_1152 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1151 : BitVec 32 := 4#32
  let v1265 : BitVec 32 := Scalar.muli v9 c4_i32_1151
  let v1266 : BitVec 32 := Scalar.addi c0_i32_1152 v1265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1153 : BitVec 32 := 2#32
  let v1267 : BitVec 32 := Scalar.muli v5 c2_i32_1153
  let v1268 : BitVec 32 := Scalar.addi v1266 v1267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1154 : BitVec 32 := 1#32
  let v1269 : BitVec 32 := Scalar.muli v8 c1_i32_1154
  let v1270 : BitVec 32 := Scalar.addi v1268 v1269
  v1270.toNat
def k0_dev25 (d0 : Dev nD) : Nat :=
  let c0_i32_1176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1175 : BitVec 32 := 4#32
  let v1291 : BitVec 32 := Scalar.muli v2 c4_i32_1175
  let v1292 : BitVec 32 := Scalar.addi c0_i32_1176 v1291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1177 : BitVec 32 := 2#32
  let v1293 : BitVec 32 := Scalar.muli v5 c2_i32_1177
  let v1294 : BitVec 32 := Scalar.addi v1292 v1293
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1178 : BitVec 32 := 1#32
  let v1295 : BitVec 32 := Scalar.muli v11 c1_i32_1178
  let v1296 : BitVec 32 := Scalar.addi v1294 v1295
  v1296.toNat
def k0_dev26 (d0 : Dev nD) : Nat :=
  let c0_i32_1234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1233 : BitVec 32 := 4#32
  let v1355 : BitVec 32 := Scalar.muli v2 c4_i32_1233
  let v1356 : BitVec 32 := Scalar.addi c0_i32_1234 v1355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1235 : BitVec 32 := 2#32
  let v1357 : BitVec 32 := Scalar.muli v5 c2_i32_1235
  let v1358 : BitVec 32 := Scalar.addi v1356 v1357
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1236 : BitVec 32 := 1#32
  let v1359 : BitVec 32 := Scalar.muli v11 c1_i32_1236
  let v1360 : BitVec 32 := Scalar.addi v1358 v1359
  v1360.toNat
def k0_dev27 (d0 : Dev nD) : Nat :=
  let c0_i32_1403 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1402 : BitVec 32 := 4#32
  let v1535 : BitVec 32 := Scalar.muli v9 c4_i32_1402
  let v1536 : BitVec 32 := Scalar.addi c0_i32_1403 v1535
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1404 : BitVec 32 := 2#32
  let v1537 : BitVec 32 := Scalar.muli v5 c2_i32_1404
  let v1538 : BitVec 32 := Scalar.addi v1536 v1537
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1405 : BitVec 32 := 1#32
  let v1539 : BitVec 32 := Scalar.muli v8 c1_i32_1405
  let v1540 : BitVec 32 := Scalar.addi v1538 v1539
  v1540.toNat
def k0_dev28 (d0 : Dev nD) : Nat :=
  let c0_i32_1427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1426 : BitVec 32 := 4#32
  let v1561 : BitVec 32 := Scalar.muli v2 c4_i32_1426
  let v1562 : BitVec 32 := Scalar.addi c0_i32_1427 v1561
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1428 : BitVec 32 := 2#32
  let v1563 : BitVec 32 := Scalar.muli v10 c2_i32_1428
  let v1564 : BitVec 32 := Scalar.addi v1562 v1563
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1429 : BitVec 32 := 1#32
  let v1565 : BitVec 32 := Scalar.muli v8 c1_i32_1429
  let v1566 : BitVec 32 := Scalar.addi v1564 v1565
  v1566.toNat
def k0_dev29 (d0 : Dev nD) : Nat :=
  let c0_i32_1548 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1547 : BitVec 32 := 4#32
  let v1691 : BitVec 32 := Scalar.muli v9 c4_i32_1547
  let v1692 : BitVec 32 := Scalar.addi c0_i32_1548 v1691
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1549 : BitVec 32 := 2#32
  let v1693 : BitVec 32 := Scalar.muli v5 c2_i32_1549
  let v1694 : BitVec 32 := Scalar.addi v1692 v1693
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1550 : BitVec 32 := 1#32
  let v1695 : BitVec 32 := Scalar.muli v8 c1_i32_1550
  let v1696 : BitVec 32 := Scalar.addi v1694 v1695
  v1696.toNat
def k0_dev30 (d0 : Dev nD) : Nat :=
  let c0_i32_1572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1571 : BitVec 32 := 4#32
  let v1717 : BitVec 32 := Scalar.muli v2 c4_i32_1571
  let v1718 : BitVec 32 := Scalar.addi c0_i32_1572 v1717
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1573 : BitVec 32 := 2#32
  let v1719 : BitVec 32 := Scalar.muli v10 c2_i32_1573
  let v1720 : BitVec 32 := Scalar.addi v1718 v1719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1574 : BitVec 32 := 1#32
  let v1721 : BitVec 32 := Scalar.muli v8 c1_i32_1574
  let v1722 : BitVec 32 := Scalar.addi v1720 v1721
  v1722.toNat
def k0_dev31 (d0 : Dev nD) : Nat :=
  let c0_i32_1584 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1583 : BitVec 32 := 4#32
  let v1731 : BitVec 32 := Scalar.muli v2 c4_i32_1583
  let v1732 : BitVec 32 := Scalar.addi c0_i32_1584 v1731
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1585 : BitVec 32 := 2#32
  let v1733 : BitVec 32 := Scalar.muli v5 c2_i32_1585
  let v1734 : BitVec 32 := Scalar.addi v1732 v1733
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1586 : BitVec 32 := 1#32
  let v1735 : BitVec 32 := Scalar.muli v11 c1_i32_1586
  let v1736 : BitVec 32 := Scalar.addi v1734 v1735
  v1736.toNat
def k0_dev32 (d0 : Dev nD) : Nat :=
  let c0_i32_1698 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1697 : BitVec 32 := 4#32
  let v1853 : BitVec 32 := Scalar.muli v9 c4_i32_1697
  let v1854 : BitVec 32 := Scalar.addi c0_i32_1698 v1853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1699 : BitVec 32 := 2#32
  let v1855 : BitVec 32 := Scalar.muli v5 c2_i32_1699
  let v1856 : BitVec 32 := Scalar.addi v1854 v1855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1700 : BitVec 32 := 1#32
  let v1857 : BitVec 32 := Scalar.muli v8 c1_i32_1700
  let v1858 : BitVec 32 := Scalar.addi v1856 v1857
  v1858.toNat
def k0_dev33 (d0 : Dev nD) : Nat :=
  let c0_i32_1722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1721 : BitVec 32 := 4#32
  let v1879 : BitVec 32 := Scalar.muli v2 c4_i32_1721
  let v1880 : BitVec 32 := Scalar.addi c0_i32_1722 v1879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1723 : BitVec 32 := 2#32
  let v1881 : BitVec 32 := Scalar.muli v5 c2_i32_1723
  let v1882 : BitVec 32 := Scalar.addi v1880 v1881
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1724 : BitVec 32 := 1#32
  let v1883 : BitVec 32 := Scalar.muli v11 c1_i32_1724
  let v1884 : BitVec 32 := Scalar.addi v1882 v1883
  v1884.toNat
def k0_dev34 (d0 : Dev nD) : Nat :=
  let c0_i32_1780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1779 : BitVec 32 := 4#32
  let v1943 : BitVec 32 := Scalar.muli v2 c4_i32_1779
  let v1944 : BitVec 32 := Scalar.addi c0_i32_1780 v1943
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1781 : BitVec 32 := 2#32
  let v1945 : BitVec 32 := Scalar.muli v5 c2_i32_1781
  let v1946 : BitVec 32 := Scalar.addi v1944 v1945
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1782 : BitVec 32 := 1#32
  let v1947 : BitVec 32 := Scalar.muli v11 c1_i32_1782
  let v1948 : BitVec 32 := Scalar.addi v1946 v1947
  v1948.toNat
def k0_dev35 (d0 : Dev nD) : Nat :=
  let c0_i32_1933 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1932 : BitVec 32 := 4#32
  let v2107 : BitVec 32 := Scalar.muli v2 c4_i32_1932
  let v2108 : BitVec 32 := Scalar.addi c0_i32_1933 v2107
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1934 : BitVec 32 := 2#32
  let v2109 : BitVec 32 := Scalar.muli v10 c2_i32_1934
  let v2110 : BitVec 32 := Scalar.addi v2108 v2109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1935 : BitVec 32 := 1#32
  let v2111 : BitVec 32 := Scalar.muli v8 c1_i32_1935
  let v2112 : BitVec 32 := Scalar.addi v2110 v2111
  v2112.toNat
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | .hbm, ⟨3, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
/- The kernel's body as a list of steps.

   The body is one long unrolled text: chunks of `x` are cast and sent to the x-neighbour, received chunks are
   forwarded to the y- and z-neighbours, and every received chunk is added to the device's own and copied out.
   Here each kind of step is one constructor of `Op`, a step's program is `prog`, and `body_eq` says that the
   printed body is the list `script` of steps, one after the other. -/
module

public import proofs.«01_k».proof.Proof.Gen.KernelIdeal.Frame
public import proofs.«01_k».proof.Proof.Gen.KernelIdeal.Skeleton

@[expose] public section

set_option maxRecDepth 16384

noncomputable section

namespace Cert.KernelIdeal.RS

open Idealize.ShloMosaic Idealize.ShloMosaic.TcCoe
open Idealize.SL Idealize.SL.Sem
open Cert.KernelIdeal.Gen

variable {F : FTy → Type} [FloatOps F]

/-! ## The three streams -/

/-- A stream of chunks: the ones received from the x-, the y- and the z-neighbour. -/
inductive Str | x | y | z
  deriving DecidableEq

/-- How many chunks a stream has. -/
def len : Str → ℕ | .x => 12 | .y => 8 | .z => 12

theorem len_pos (s : Str) : 0 < len s := by cases s <;> decide

/-- A chunk number of a stream, from a natural number. -/
def at' (s : Str) (k : ℕ) : Fin (len s) := ⟨k % len s, Nat.mod_lt _ (len_pos s)⟩

/-- One of two slots, by the parity of a position. -/
def par (k : ℕ) : Fin 2 := ⟨k % 2, Nat.mod_lt _ (by decide)⟩

/-- One of the four send slots. -/
def qtr (k : ℕ) : Fin 4 := ⟨k % 4, Nat.mod_lt _ (by decide)⟩

/-- The chunk that a stream handles at a position: in order but for the y stream. -/
def ord : (s : Str) → Fin (len s) → Fin (len s)
  | .x, p => p
  | .y, p => (![0, 2, 1, 4, 3, 6, 5, 7] : Fin 8 → Fin 8) p
  | .z, p => p

/-! ## The views -/

/-- A buffer of `n` chunk slots. -/
abbrev Sn (n : ℕ) : Shape := ⟨3, ![n, 256, 1024]⟩

theorem slotInb (n : ℕ) (i : Fin n) : ∀ a, (![i.val, 0, 0] : Fin 3 → ℕ) a + S1x256x1024.size a ≤ (Sn n).size a := by
  intro a
  fin_cases a
  · show i.val + 1 ≤ n
    omega
  · show 0 + 256 ≤ 256
    omega
  · show 0 + 1024 ≤ 1024
    omega

/-- The rectangle of slot `i`. -/
abbrev slotR (n : ℕ) (i : Fin n) : Rect (Sn n) := Rect.unit (s := Sn n) ![i.val, 0, 0] S1x256x1024.size (slotInb n i)

theorem slotR_packed (n : ℕ) (i : Fin n) (p : ℕ) (hp : p ∣ 256) : (slotR n i).PackedRows p :=
  .inr ⟨(by decide : 2 ≤ 3), rfl, .inl ⟨⟨0, by exact (Nat.mul_zero p).symm⟩, by exact hp⟩⟩

/-- Slot `i` of a buffer as a chunk. -/
abbrev slot {n : ℕ} {e : EltTy} (b : Memref sig .tc .vmem (Sn n) e) (i : Fin n) : Memref sig .tc .vmem S256x1024 e :=
  (b.slice (slotR n i) (fun _ => rfl)).squeeze S256x1024 squeezes_S1x256x1024_S256x1024

theorem slot_words {n : ℕ} {b : Memref sig .tc .vmem (Sn n) .bf16} (hb : b.IsWhole) (i : Fin n) : (slot b i).view.WordExact :=
  (hb.wordExact_slice rfl _ (slotR_packed n i _ (by decide)).wholeWords).reshape _ _

theorem semInb (n : ℕ) (i : Fin n) : ∀ a, (![i.val] : Fin 1 → ℕ) a + S1.size a ≤ (⟨1, ![n]⟩ : Shape).size a := by
  intro a
  fin_cases a
  show i.val + 1 ≤ n
  omega

/-- Semaphore `i` of an array of `n`. -/
abbrev semAt {n : ℕ} (A : DmaSems sig ⟨1, ![n]⟩) (i : Fin n) : DmaSem sig :=
  ((A.slice (Rect.unit (s := ⟨1, ![n]⟩) ![i.val] S1.size (semInb n i))).squeeze S_ squeezes_S1_S_).sem

/-- A chunk of `x`. -/
abbrev xAt (off : Fin 3 → ℕ) (h : ∀ a, off a + S1x256x1024.size a ≤ S1x8192x2048.size a) : Memref sig .tc .hbm S256x1024 .f32 :=
  ((Memref.whole main_arg0).slice (Rect.unit (s := S1x8192x2048) off S1x256x1024.size h) (fun _ => rfl)).squeeze S256x1024
    squeezes_S1x256x1024_S256x1024

/-- A chunk of the result. -/
abbrev oAt (off : Fin 2 → ℕ) (h : ∀ a, off a + S256x1024.size a ≤ S8192x1024.size a) : Memref sig .tc .hbm S256x1024 .bf16 :=
  (Memref.whole main_v1).slice (Rect.unit (s := S8192x1024) off S256x1024.size h) (fun _ => rfl)

/-! ## The offsets -/

/-- The row group of a chunk, of four. -/
def grp (q : ℕ) : Fin 4 := ⟨q / 3 % 4, Nat.mod_lt _ (by decide)⟩
def grpY (q : ℕ) : Fin 4 := ⟨q / 2 % 4, Nat.mod_lt _ (by decide)⟩
def grp2 (q : ℕ) (b : ℕ) : Fin 8 := ⟨(2 * (q / 3) + b) % 8, Nat.mod_lt _ (by decide)⟩

/-- Where the chunk `i` that device `d` sends to its x-neighbour lies in its `x`. -/
def offC (d : Dev nD) (i : Fin 12) : Fin 3 → ℕ :=
  match i.val % 3 with
  | 0 => k0_off1 d (BitVec.ofNat 32 (256 * (grp i.val).val))
  | 1 => k0_off5 d (k0_off5_at (grp2 i.val 0)).1 (k0_off5_at (grp2 i.val 0)).2.1 (k0_off5_at (grp2 i.val 0)).2.2
  | _ => k0_off5 d (k0_off5_at (grp2 i.val 1)).1 (k0_off5_at (grp2 i.val 1)).2.1 (k0_off5_at (grp2 i.val 1)).2.2

theorem offC_inb (d : Dev nD) (i : Fin 12) : ∀ a, offC d i a + S1x256x1024.size a ≤ S1x8192x2048.size a := by
  revert d i
  decide +kernel

/-- Where the device's own chunk that is added to chunk `q` of a stream lies in its `x`. -/
def offL (d : Dev nD) : (s : Str) → Fin (len s) → Fin 3 → ℕ
  | .x, q => match q.val % 3 with
    | 0 => k0_off2 d (BitVec.ofNat 32 (256 * (grp q.val).val))
    | 1 => k0_off6 d (k0_off6_at (grp2 q.val 0)).1 (k0_off6_at (grp2 q.val 0)).2.1 (k0_off6_at (grp2 q.val 0)).2.2
    | _ => k0_off6 d (k0_off6_at (grp2 q.val 1)).1 (k0_off6_at (grp2 q.val 1)).2.1 (k0_off6_at (grp2 q.val 1)).2.2
  | .y, q => match q.val % 2 with
    | 0 => k0_off3 d (BitVec.ofNat 32 (256 * (grpY q.val).val))
    | _ => k0_off12 d (BitVec.ofNat 32 (256 * (grpY q.val).val))
  | .z, q => match q.val % 3 with
    | 0 => k0_off4 d (BitVec.ofNat 32 (256 * (grp q.val).val))
    | 1 => k0_off10 d (BitVec.ofNat 32 (256 * (grp q.val).val))
    | _ => k0_off13 d (BitVec.ofNat 32 (256 * (grp q.val).val))

theorem offL_inb (d : Dev nD) (s : Str) (q : Fin (len s)) : ∀ a, offL d s q a + S1x256x1024.size a ≤ S1x8192x2048.size a := by
  revert d q
  cases s <;> decide +kernel

/-- Where the sum of chunk `q` of a stream goes in the result. -/
def offO (d : Dev nD) : (s : Str) → Fin (len s) → Fin 2 → ℕ
  | .x, q => match q.val % 3 with
    | 0 => k0_off7 d (BitVec.ofNat 32 (256 * (grp q.val).val))
    | 1 => k0_off8 d (k0_off8_at (grp2 q.val 0)).1 (k0_off8_at (grp2 q.val 0)).2.1 (k0_off8_at (grp2 q.val 0)).2.2
    | _ => k0_off8 d (k0_off8_at (grp2 q.val 1)).1 (k0_off8_at (grp2 q.val 1)).2.1 (k0_off8_at (grp2 q.val 1)).2.2
  | .y, q => match q.val % 2 with
    | 0 => k0_off9 d (BitVec.ofNat 32 (256 * (grpY q.val).val))
    | _ => k0_off16 d (BitVec.ofNat 32 (256 * (grpY q.val).val))
  | .z, q => match q.val % 3 with
    | 0 => k0_off11 d (BitVec.ofNat 32 (256 * (grp q.val).val))
    | 1 => k0_off14 d (BitVec.ofNat 32 (256 * (grp q.val).val))
    | _ => k0_off15 d (BitVec.ofNat 32 (256 * (grp q.val).val))

theorem offO_inb (d : Dev nD) (s : Str) (q : Fin (len s)) : ∀ a, offO d s q a + S256x1024.size a ≤ S8192x1024.size a := by
  revert d q
  cases s <;> decide +kernel

theorem offO_words (d : Dev nD) (s : Str) (q : Fin (len s)) :
    (Rect.unit (s := S8192x1024) (offO d s q) S256x1024.size (offO_inb d s q)).WholeWords (EltTy.packing .bf16) := by
  revert d q
  cases s <;> decide +kernel

/-- The three neighbours, in the order the body signals them. -/
def sigDev (d : Dev nD) : Str → Dev nD
  | .x => ⟨k0_dev1 d, k0_dev1_lt d⟩
  | .y => ⟨k0_dev2 d, k0_dev2_lt d⟩
  | .z => ⟨k0_dev3 d, k0_dev3_lt d⟩

/-- The device that a send goes to. -/
def sndDev (d : Dev nD) : (s : Str) → Fin (len s) → Dev nD
  | .x => ![⟨k0_dev4 d, k0_dev4_lt d⟩, ⟨k0_dev5 d, k0_dev5_lt d⟩, ⟨k0_dev8 d, k0_dev8_lt d⟩, ⟨k0_dev11 d, k0_dev11_lt d⟩,
      ⟨k0_dev13 d, k0_dev13_lt d⟩, ⟨k0_dev16 d, k0_dev16_lt d⟩, ⟨k0_dev19 d, k0_dev19_lt d⟩, ⟨k0_dev21 d, k0_dev21_lt d⟩,
      ⟨k0_dev24 d, k0_dev24_lt d⟩, ⟨k0_dev27 d, k0_dev27_lt d⟩, ⟨k0_dev29 d, k0_dev29_lt d⟩, ⟨k0_dev32 d, k0_dev32_lt d⟩]
  | .y => ![⟨k0_dev6 d, k0_dev6_lt d⟩, ⟨k0_dev12 d, k0_dev12_lt d⟩, ⟨k0_dev14 d, k0_dev14_lt d⟩, ⟨k0_dev20 d, k0_dev20_lt d⟩,
      ⟨k0_dev22 d, k0_dev22_lt d⟩, ⟨k0_dev28 d, k0_dev28_lt d⟩, ⟨k0_dev30 d, k0_dev30_lt d⟩, ⟨k0_dev35 d, k0_dev35_lt d⟩]
  | .z => ![⟨k0_dev7 d, k0_dev7_lt d⟩, ⟨k0_dev9 d, k0_dev9_lt d⟩, ⟨k0_dev10 d, k0_dev10_lt d⟩, ⟨k0_dev15 d, k0_dev15_lt d⟩,
      ⟨k0_dev17 d, k0_dev17_lt d⟩, ⟨k0_dev18 d, k0_dev18_lt d⟩, ⟨k0_dev23 d, k0_dev23_lt d⟩, ⟨k0_dev25 d, k0_dev25_lt d⟩,
      ⟨k0_dev26 d, k0_dev26_lt d⟩, ⟨k0_dev31 d, k0_dev31_lt d⟩, ⟨k0_dev33 d, k0_dev33_lt d⟩, ⟨k0_dev34 d, k0_dev34_lt d⟩]

/-! ## The buffers and the semaphores -/

/-- Where a stream's chunks are received. -/
abbrev rcvB : (s : Str) → Memref sig .tc .vmem (Sn (len s)) .bf16
  | .x => Memref.whole cc0_scratch0
  | .y => Memref.whole cc0_scratch1
  | .z => Memref.whole cc0_scratch2

theorem rcvB_whole (s : Str) : (rcvB s).IsWhole := by cases s <;> exact Memref.isWhole_whole _

/-- Where `x`'s chunks are loaded to be cast, and where the cast chunks are kept for the send. -/
abbrev cvtB : Memref sig .tc .vmem (Sn 2) .f32 := Memref.whole cc0_scratch3
abbrev sndB : Memref sig .tc .vmem (Sn 4) .bf16 := Memref.whole cc0_scratch4

/-- A stream's own chunks, and its sums. -/
abbrev locB : Str → Memref sig .tc .vmem (Sn 2) .f32
  | .x => Memref.whole cc0_scratch5
  | .y => Memref.whole cc0_scratch6
  | .z => Memref.whole cc0_scratch7

abbrev outB : Str → Memref sig .tc .vmem (Sn 2) .bf16
  | .x => Memref.whole cc0_scratch8
  | .y => Memref.whole cc0_scratch9
  | .z => Memref.whole cc0_scratch10

theorem outB_whole (s : Str) : (outB s).IsWhole := by cases s <;> exact Memref.isWhole_whole _

/-- The chunk of `rcvB` that a forward to the y- or z-neighbour reads. -/
def ySrc (j : Fin 8) : Fin 12 := ⟨(3 * (j.val / 2) + 2 * (j.val % 2)) % 12, Nat.mod_lt _ (by decide)⟩

/-- What send `q` of a stream reads. -/
def srcZ (q : Fin 12) : Memref sig .tc .vmem S256x1024 .bf16 :=
  match q.val % 3 with
  | 2 => slot (rcvB .y) (at' .y (2 * (q.val / 3)))
  | _ => slot (rcvB .x) q

def srcM : (s : Str) → Fin (len s) → Memref sig .tc .vmem S256x1024 .bf16
  | .x, q => slot sndB (qtr q.val)
  | .y, q => slot (rcvB .x) (ySrc q)
  | .z, q => srcZ q

theorem srcZ_words (q : Fin 12) : (srcZ q).view.WordExact := by
  unfold srcZ
  split
  · exact slot_words (rcvB_whole .y) _
  · exact slot_words (rcvB_whole .x) _

theorem srcM_words (s : Str) (q : Fin (len s)) : (srcM s q).view.WordExact :=
  match s, q with
  | .x, _ => slot_words (Memref.isWhole_whole _) _
  | .y, _ => slot_words (rcvB_whole .x) _
  | .z, q => srcZ_words q

/-- The semaphore a send completes on at the sender, and at the receiver. -/
abbrev sS : (s : Str) → Fin (len s) → DmaSem sig
  | .x, q => semAt (n := 4) cc0_scratch11 (qtr q.val)
  | .y, q => semAt (n := 8) cc0_scratch13 q
  | .z, q => semAt (n := 12) cc0_scratch15 q

abbrev sR : (s : Str) → Fin (len s) → DmaSem sig
  | .x, q => semAt (n := 12) cc0_scratch12 q
  | .y, q => semAt (n := 8) cc0_scratch14 q
  | .z, q => semAt (n := 12) cc0_scratch16 q

abbrev sC (k : Fin 2) : DmaSem sig := semAt (n := 2) cc0_scratch17 k

abbrev sL : Str → Fin 2 → DmaSem sig
  | .x, k => semAt (n := 2) cc0_scratch18 k
  | .y, k => semAt (n := 2) cc0_scratch19 k
  | .z, k => semAt (n := 2) cc0_scratch20 k

abbrev sO : Str → Fin 2 → DmaSem sig
  | .x, k => semAt (n := 2) cc0_scratch21 k
  | .y, k => semAt (n := 2) cc0_scratch22 k
  | .z, k => semAt (n := 2) cc0_scratch23 k

abbrev barS : Sem sig := (SemArray.scalar (sig.barrier 0 rfl) : Sems sig S_).sem

/-! ## The steps -/

/-- A step of the body. -/
inductive Op
  /-- tell a neighbour that this device has started -/
  | sig (s : Str)
  /-- wait for the three neighbours -/
  | bar
  /-- load a chunk to be cast; wait for it; cast it -/
  | ldC (i : Fin 12)
  | wtC (i : Fin 12)
  | cast (i : Fin 12)
  /-- send a chunk; wait for its arrival here; wait for the send's end -/
  | snd (s : Str) (q : Fin (len s))
  | wr (s : Str) (q : Fin (len s))
  | ws (s : Str) (q : Fin (len s))
  /-- at a position of a stream: load the own chunk; wait for it; add; copy the sum out; wait for that -/
  | ldL (s : Str) (p : Fin (len s))
  | wtL (s : Str) (p : Fin (len s))
  | add (s : Str) (p : Fin (len s))
  | stO (s : Str) (p : Fin (len s))
  | wtO (s : Str) (p : Fin (len s))
  deriving DecidableEq

/-- A chunk cast to bfloat16. -/
def castPay (v : Vec F S1x256x1024 .f32) : FVec F S1x256x1024 .bf16 := k0_pay1 v

/-- A chunk plus a received chunk, cast to bfloat16. -/
def addPay (v : Vec F S1x256x1024 .f32) (w : Vec F S1x256x1024 .bf16) : FVec F S1x256x1024 .bf16 := k0_pay3 v w

abbrev P := Prog (TpuEff nD τ sig (Elt F) Λ₀ .tc) PUnit

/-- Read a slot. -/
abbrev rd {n : ℕ} {e : EltTy} (b : Memref sig .tc .vmem (Sn n) e) (i : Fin n) :
    Prog (TpuEff nD τ sig (Elt F) Λ₀ .tc) (Vec F S1x256x1024 e) :=
  Prog.lift (.load b (slotR n i).toLoadRect (View.loadsAt_vmem h_S1x256x1024))

/-- Overwrite a slot. -/
abbrev wrt {n : ℕ} (b : Memref sig .tc .vmem (Sn n) .bf16) (hb : b.IsWhole) (i : Fin n) (v : Vec F S1x256x1024 .bf16) :
    P (F := F) :=
  Prog.lift (.store b (slotR n i) v Finset.univ
    (View.stores_vmem h_S1x256x1024 (hb.storeExact_slice rfl _ (slotR_packed n i _ (by decide))) (fun _ => rfl)) (.inl rfl))

/-- A step's program on device `d`. -/
def prog (d : Dev nD) : Op → P (F := F)
  | .sig s => semSignalWord (sigDev d s) barS 1#32
  | .bar => semWaitWord barS 3#32
  | .ldC i => Prog.lift (.enqueueDma (xAt (offC d i) (offC_inb d i)) (.here (slot cvtB (par i.val))) (.dma (sC (par i.val)))
      ((View.wordExact_bits rfl).reshape _ _) ((View.wordExact_bits rfl).reshape _ _) ⟨Or.inl rfl, trivial⟩)
  | .wtC i => Prog.lift (.waitDma2 (sC (par i.val)) (xAt (offC d i) (offC_inb d i)) (slot cvtB (par i.val))
      ((View.wordExact_bits rfl).reshape _ _) ((View.wordExact_bits rfl).reshape _ _))
  | .cast i => do
      let v ← rd cvtB (par i.val)
      let _ ← rd sndB (qtr i.val)
      wrt sndB (Memref.isWhole_whole _) (qtr i.val) (castPay v)
  | .snd s q => Prog.lift (.enqueueDma (srcM s q) (.remote (Dev.tc (sndDev d s q)) (slot (rcvB s) q) (.dma (sS s q))) (.dma (sR s q))
      (srcM_words s q) (slot_words (rcvB_whole s) q) ⟨⟨rfl, Or.inl rfl⟩, trivial⟩)
  | .wr s q => Prog.lift (.waitDma2 (sR s q) (srcM s q) (slot (rcvB s) q) (srcM_words s q) (slot_words (rcvB_whole s) q))
  | .ws s q => Prog.lift (.waitDma2 (sS s q) (slot (rcvB s) q) (srcM s q) (slot_words (rcvB_whole s) q) (srcM_words s q))
  | .ldL s p => Prog.lift (.enqueueDma (xAt (offL d s (ord s p)) (offL_inb d s (ord s p))) (.here (slot (locB s) (par p.val)))
      (.dma (sL s (par p.val))) ((View.wordExact_bits rfl).reshape _ _) ((View.wordExact_bits rfl).reshape _ _) ⟨Or.inl rfl, trivial⟩)
  | .wtL s p => Prog.lift (.waitDma2 (sL s (par p.val)) (xAt (offL d s (ord s p)) (offL_inb d s (ord s p)))
      (slot (locB s) (par p.val)) ((View.wordExact_bits rfl).reshape _ _) ((View.wordExact_bits rfl).reshape _ _))
  | .add s p => do
      let v ← rd (locB s) (par p.val)
      let w ← rd (rcvB s) (ord s p)
      let _ ← rd (outB s) (par p.val)
      wrt (outB s) (outB_whole s) (par p.val) (addPay v w)
  | .stO s p => Prog.lift (.enqueueDma (slot (outB s) (par p.val)) (.here (oAt (offO d s (ord s p)) (offO_inb d s (ord s p))))
      (.dma (sO s (par p.val))) (slot_words (outB_whole s) _)
      ((Memref.isWhole_whole main_v1).wordExact_slice rfl _ (offO_words d s (ord s p))) ⟨Or.inl rfl, trivial⟩)
  | .wtO s p => Prog.lift (.waitDma2 (sO s (par p.val)) (slot (outB s) (par p.val)) (oAt (offO d s (ord s p)) (offO_inb d s (ord s p)))
      (slot_words (outB_whole s) _) ((Memref.isWhole_whole main_v1).wordExact_slice rfl _ (offO_words d s (ord s p))))

/-- The additions' steps at a position of a stream. -/
def addOps (s : Str) (p : ℕ) : List Op :=
  [.wtL s (at' s p)] ++ (if p + 1 < len s then [.ldL s (at' s (p + 1))] else [])
    ++ (if 2 ≤ p then [.wtO s (at' s (p - 2))] else []) ++ [.add s (at' s p), .stO s (at' s p)]

/-- A received chunk's steps, in a stream's order: wait, forward, add. -/
def procX (i : ℕ) : List Op :=
  [.wr .x (at' .x i)] ++ (match i % 3 with
    | 0 => [.snd .y (at' .y (2 * (i / 3))), .snd .z (at' .z i)]
    | 1 => [.snd .z (at' .z i)]
    | _ => [.snd .y (at' .y (2 * (i / 3) + 1))]) ++ addOps .x i

def procY (p : ℕ) : List Op :=
  [.wr .y (ord .y (at' .y p))] ++ (if (ord .y (at' .y p)).val % 2 = 0 then
    [.snd .z (at' .z (3 * ((ord .y (at' .y p)).val / 2) + 2))] else []) ++ addOps .y p

def procZ (p : ℕ) : List Op := [.wr .z (at' .z p)] ++ addOps .z p

/-- A chunk of `x` is cast and sent. -/
def sendX (t : ℕ) : List Op :=
  (if t + 1 < 12 then [.ldC (at' .x (t + 1))] else []) ++ [.wtC (at' .x t)]
    ++ (if 4 ≤ t then [.ws .x (at' .x (t - 4))] else []) ++ [.cast (at' .x t), .snd .x (at' .x t)]

/-- The body's steps after it has read its device number. -/
def script : List Op :=
  [.ldC 0, .ldL .x (at' .x 0), .ldL .y (at' .y 0), .ldL .z (at' .z 0), .sig .x, .sig .y, .sig .z, .bar]
    ++ sendX 0
    ++ sendX 1 ++ procX 0
    ++ sendX 2 ++ procX 1 ++ procY 0
    ++ sendX 3 ++ procX 2
    ++ sendX 4 ++ procX 3 ++ procZ 0
    ++ sendX 5 ++ procX 4 ++ procY 1 ++ procZ 1 ++ procZ 2
    ++ sendX 6 ++ procX 5 ++ procY 2
    ++ sendX 7 ++ procX 6 ++ procZ 3
    ++ sendX 8 ++ procX 7 ++ procY 3 ++ procZ 4 ++ procZ 5
    ++ sendX 9 ++ procX 8 ++ procY 4
    ++ sendX 10 ++ procX 9 ++ procZ 6
    ++ sendX 11 ++ procX 10 ++ procY 5 ++ procZ 7 ++ procZ 8
    ++ procX 11 ++ procY 6 ++ procZ 9 ++ procZ 10 ++ procZ 11 ++ procY 7
    ++ (List.range 4).map (fun k => .ws .x (at' .x (8 + k)))
    ++ (List.range 8).map (fun k => .ws .y (at' .y k))
    ++ (List.range 12).map (fun k => .ws .z (at' .z k))
    ++ [.wtO .x (at' .x 10), .wtO .x (at' .x 11), .wtO .y (at' .y 6), .wtO .y (at' .y 7), .wtO .z (at' .z 10), .wtO .z (at' .z 11)]

/-- THE BODY AS ITS STEPS: the printed body reads its device number and then runs the script. -/
theorem body_eq (t : Fin cfg0.N) : bodyAt0 (F := F) t = .op .deviceId fun d => Pipeline.chain (script.map (prog d)) := by
  chain_rfl

end Cert.KernelIdeal.RS

end
-- ==== Proof.Sched.lean ====
/- The protocol between the devices, and what each landing hands over.

   A device has three neighbours, one along each axis of the mesh. It tells each of them that it has started, which
   hands over the slots that the neighbour will write into. After that every copy is one round of one semaphore: the
   copy pays it, the owner of the semaphore waits for it. A send raises the sender's semaphore (the source comes back)
   and the receiver's (the slot comes with its contents). -/
module

public import proofs.«01_k».proof.Proof.Ops
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Ring.Tabled
public import Idealize.ShloMosaic.Lib.Ring.Trips
public import Idealize.ShloMosaic.Lib.Tactic

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sharesN shares3)
open Cert.KernelIdeal.Gen

variable {F : FTy → Type} [FloatOps F]

instance : Fintype Str := ⟨{.x, .y, .z}, by intro s; cases s <;> decide⟩

abbrev UB : Type := URounds (GSem nD τ sig) Str
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The neighbours -/

/-- The neighbour of a device along an axis. Device `4 a + 2 b + c` lies at `(a, b, c)`. -/
def peer : Str → Dev nD → Dev nD
  | .x, d => ⟨(d.val + 4) % 8, Nat.mod_lt _ (by decide)⟩
  | .y, d => ⟨(4 * (d.val / 4) + (d.val + 2) % 4) % 8, Nat.mod_lt _ (by decide)⟩
  | .z, d => ⟨(2 * (d.val / 2) + (d.val + 1) % 2) % 8, Nat.mod_lt _ (by decide)⟩

theorem peer_peer (s : Str) (d : Dev nD) : peer s (peer s d) = d := by
  revert d; cases s <;> decide +kernel

theorem sigDev_eq (d : Dev nD) (s : Str) : sigDev d s = peer s d := by
  revert d; cases s <;> decide +kernel

theorem sndDev_eq (d : Dev nD) (s : Str) (q : Fin (len s)) : sndDev d s q = peer s d := by
  revert d q; cases s <;> decide +kernel

/-! ## Contents -/

/-- A chunk of values. -/
abbrev Chunk (F : FTy → Type) (e : EltTy) : Type := S256x1024.Idx → Elt F e

/-- A chunk of a device's `x` at launch. -/
def xv (c : Dev nD) (off : Fin 3 → ℕ) (h : ∀ a, off a + S1x256x1024.size a ≤ S1x8192x2048.size a) : Chunk F .f32 :=
  (xAt off h).view.read (Elt F) (m ((c : Thread nD τ).loc main_arg0))

/-- A chunk cast to bfloat16, and the sum of a chunk and a received one. -/
def castV (w : Chunk F .f32) : Chunk F .bf16 := truncf (F := F) (s := S256x1024) (φ := .f32) .bf16 w bitsLt_bf16_f32

def addV (v : Chunk F .f32) (w : Chunk F .bf16) : Chunk F .bf16 :=
  truncf (F := F) (s := S256x1024) (φ := .f32) .bf16
    (addf (F := F) (s := S256x1024) (φ := .f32) v (extf (F := F) (s := S256x1024) (φ := .bf16) .f32 w bitsLt_bf16_f32)) bitsLt_bf16_f32

/-- What a device sends along each axis: its own chunk cast, a chunk received along x, a chunk received along x or y. -/
def svX (c : Dev nD) (q : Fin 12) : Chunk F .bf16 := castV (xv m c (offC c q) (offC_inb c q))
def svY (c : Dev nD) (q : Fin 8) : Chunk F .bf16 := svX m (peer .x c) (ySrc q)
def svZ (c : Dev nD) (q : Fin 12) : Chunk F .bf16 :=
  match q.val % 3 with
  | 2 => svY m (peer .y c) (at' .y (2 * (q.val / 3)))
  | _ => svX m (peer .x c) q

def sv (c : Dev nD) : (s : Str) → Fin (len s) → Chunk F .bf16
  | .x, q => svX m c q
  | .y, q => svY m c q
  | .z, q => svZ m c q

/-- What a device receives: what its neighbour sends. -/
def rv (c : Dev nD) (s : Str) (q : Fin (len s)) : Chunk F .bf16 := sv m (peer s c) s q

/-- The device's own chunk at a position of a stream, and the sum stored there. -/
def lv' (c : Dev nD) (s : Str) (p : Fin (len s)) : Chunk F .f32 := xv m c (offL c s (ord s p)) (offL_inb c s (ord s p))
def ov (c : Dev nD) (s : Str) (p : Fin (len s)) : Chunk F .bf16 := addV (lv' m c s p) (rv m c s (ord s p))

/-! ## What a device holds -/

/-- A piece of memory in a known state. -/
inductive MA
  /-- a share of the chunk of `x` that is cast, that is added -/
  | xC (i : Fin 12)
  | xL (s : Str) (p : Fin (len s))
  /-- a slot of the buffer of chunks to be cast, of any contents, or holding a chunk -/
  | cF (k : Fin 2)
  | cH (i : Fin 12)
  /-- a send slot -/
  | bF (k : Fin 4)
  | bH (i : Fin 12)
  /-- a receive slot: the device's own before it is lent, the neighbour's, a share of the own one with its chunk -/
  | own (s : Str) (q : Fin (len s))
  | pr (s : Str) (q : Fin (len s))
  | rp (s : Str) (q : Fin (len s)) (k : Fin 3)
  /-- a slot of a stream's own chunks -/
  | lF (s : Str) (k : Fin 2)
  | lH (s : Str) (p : Fin (len s))
  /-- a slot of a stream's sums -/
  | oF (s : Str) (k : Fin 2)
  | oH (s : Str) (p : Fin (len s))
  /-- a chunk of the result, of any contents, or written -/
  | yF (s : Str) (p : Fin (len s))
  | yD (s : Str) (p : Fin (len s))
  deriving DecidableEq

/-- The share of `x` that a load reads with; one more share is never lent. -/
def xsh (k : ℕ) : PosShare TreeShare := sharesN 45 fullShare ⟨k % 45, Nat.mod_lt _ (by decide)⟩
def base : Str → ℕ | .x => 12 | .y => 24 | .z => 32

/-- A memref with some contents. -/
def free (c : Dev nD) {sp : Space} {e : EltTy} (r : Memref sig .tc sp S256x1024 e) : sProp 𝕄 :=
  iprop(∃ w : Chunk F e, owns (Ix := Unit) (Val := Elt F) (Name := ℕ) (U := UU) (Lvl := ℕ) (c : Thread nD τ) r fullShare w)

/-- A memref with a chunk in it. -/
def hold (c : Dev nD) {sp : Space} {e : EltTy} (r : Memref sig .tc sp S256x1024 e) (q : PosShare TreeShare) (w : Chunk F e) : sProp 𝕄 :=
  owns (Ix := Unit) (Val := Elt F) (Name := ℕ) (U := UU) (Lvl := ℕ) (c : Thread nD τ) r q w

def mA (c : Dev nD) : MA → sProp 𝕄
  | .xC i => hold c (xAt (offC c i) (offC_inb c i)) (xsh i.val) (xv m c (offC c i) (offC_inb c i))
  | .xL s p => hold c (xAt (offL c s (ord s p)) (offL_inb c s (ord s p))) (xsh (base s + p.val)) (lv' m c s p)
  | .cF k => free c (slot cvtB k)
  | .cH i => hold c (slot cvtB (par i.val)) fullShare (xv m c (offC c i) (offC_inb c i))
  | .bF k => free c (slot sndB k)
  | .bH i => hold c (slot sndB (qtr i.val)) fullShare (svX m c i)
  | .own s q => free c (slot (rcvB s) q)
  | .pr s q => free (peer s c) (slot (rcvB s) q)
  | .rp s q k => hold c (slot (rcvB s) q) (shares3 fullShare k) (rv m c s q)
  | .lF s k => free c (slot (locB s) k)
  | .lH s p => hold c (slot (locB s) (par p.val)) fullShare (lv' m c s p)
  | .oF s k => free c (slot (outB s) k)
  | .oH s p => hold c (slot (outB s) (par p.val)) fullShare (ov m c s p)
  | .yF s p => free c (oAt (offO c s (ord s p)) (offO_inb c s (ord s p)))
  | .yD s p => hold c (oAt (offO c s (ord s p)) (offO_inb c s (ord s p))) fullShare (ov m c s p)

instance hold_storable (c : Dev nD) {sp : Space} {e : EltTy} (r : Memref sig .tc sp S256x1024 e) (q : PosShare TreeShare) (w : Chunk F e) :
    BI.Storable (upEmb : UEmb _ 𝕄) (hold c r q w) := by unfold hold; infer_instance

instance free_storable (c : Dev nD) {sp : Space} {e : EltTy} (r : Memref sig .tc sp S256x1024 e) :
    BI.Storable (upEmb : UEmb _ 𝕄) (free (F := F) c r) := by unfold free; infer_instance

instance mA_storable (c : Dev nD) (a : MA) : BI.Storable (upEmb : UEmb _ 𝕄) (mA m c a) := by
  cases a <;> unfold mA <;> infer_instance

/-- A list of them. -/
def mAs (c : Dev nD) (l : List MA) : sProp 𝕄 := bigSepL l (mA m c)

instance mAs_storable (c : Dev nD) (l : List MA) : BI.Storable (upEmb : UEmb _ 𝕄) (mAs m c l) := by
  unfold mAs
  induction l with
  | nil => exact inferInstanceAs (BI.Storable (upEmb : UEmb _ 𝕄) iprop(emp))
  | cons a l ih => rw [bigSepL_cons']; infer_instance

/-- What send `q` of a stream reads, and what comes back of it. -/
def srcZA (q : Fin 12) : MA :=
  match q.val % 3 with
  | 2 => .rp .y (at' .y (2 * (q.val / 3))) 2
  | _ => .rp .x q 2

def srcA : (s : Str) → Fin (len s) → MA
  | .x, q => .bH q
  | .y, q => .rp .x (ySrc q) 1
  | .z, q => srcZA q

def retA : (s : Str) → Fin (len s) → MA
  | .x, q => .bF (qtr q.val)
  | .y, q => .rp .x (ySrc q) 1
  | .z, q => srcZA q

/-! ## The landings -/

/-- A landing: of a load to be cast, of a send at its source and at its target, of a load to be added, of a store. -/
inductive Ev
  | cv (i : Fin 12)
  | sd (s : Str) (q : Fin (len s))
  | rc (s : Str) (q : Fin (len s))
  | lo (s : Str) (p : Fin (len s))
  | ou (s : Str) (p : Fin (len s))
  deriving DecidableEq

/-- The semaphore of a landing, and which round of it. -/
def semOf : Ev → DmaSem sig
  | .cv i => sC (par i.val)
  | .sd s q => sS s q
  | .rc s q => sR s q
  | .lo s p => sL s (par p.val)
  | .ou s p => sO s (par p.val)

def rnd : Ev → ℕ
  | .cv i => i.val / 2
  | .sd .x q => q.val / 4
  | .sd _ _ => 0
  | .rc _ _ => 0
  | .lo _ p => p.val / 2
  | .ou _ p => p.val / 2

/-- How many rounds a semaphore has. -/
def rEnd (k : ℕ) : ℕ :=
  if k < 4 then 3 else if k < 56 then 1 else if k < 60 then 6 else if k < 62 then 4 else if k < 66 then 6 else if k < 68 then 4 else 6

/-- The landing of a round of a semaphore. -/
def dec (k : ℕ) (r : ℕ) : Option Ev :=
  if r < rEnd k then
    some (if k < 4 then .sd .x (at' .x (4 * r + k))
    else if k < 16 then .rc .x (at' .x (k - 4))
    else if k < 24 then .sd .y (at' .y (k - 16))
    else if k < 32 then .rc .y (at' .y (k - 24))
    else if k < 44 then .sd .z (at' .z (k - 32))
    else if k < 56 then .rc .z (at' .z (k - 44))
    else if k < 58 then .cv (at' .x (2 * r + (k - 56)))
    else if k < 60 then .lo .x (at' .x (2 * r + (k - 58)))
    else if k < 62 then .lo .y (at' .y (2 * r + (k - 60)))
    else if k < 64 then .lo .z (at' .z (2 * r + (k - 62)))
    else if k < 66 then .ou .x (at' .x (2 * r + (k - 64)))
    else if k < 68 then .ou .y (at' .y (2 * r + (k - 66)))
    else .ou .z (at' .z (2 * r + (k - 68))))
  else none

theorem dec_none {k r : ℕ} (h : rEnd k ≤ r) : dec k r = none := if_neg (Nat.not_lt.mpr h)

theorem dec_ev (e : Ev) : dec (semOf e).val (rnd e) = some e := by
  cases e with
  | cv i => revert i; decide +kernel
  | sd s q => cases s <;> (revert q; decide +kernel)
  | rc s q => cases s <;> (revert q; decide +kernel)
  | lo s q => cases s <;> (revert q; decide +kernel)
  | ou s q => cases s <;> (revert q; decide +kernel)

/-- The units of a landing: a chunk's credit. -/
def Nf : ℕ := (slot cvtB 0).view.dmaCredit
def Nb : ℕ := (slot sndB 0).view.dmaCredit
theorem Nf_pos : 0 < Nf := View.dmaCredit_pos _ (by decide)
theorem Nb_pos : 0 < Nb := View.dmaCredit_pos _ (by decide)

def amt : Ev → ℕ
  | .cv _ => Nf
  | .lo _ _ => Nf
  | _ => Nb

theorem amt_pos (e : Ev) : 0 < amt e := by cases e <;> first | exact Nf_pos | exact Nb_pos

/-- What a landing hands over. -/
def evL : Ev → List MA
  | .cv i => [.cH i]
  | .sd s q => [retA s q]
  | .rc s q => [.rp s q 0, .rp s q 1, .rp s q 2]
  | .lo s p => [.lH s p]
  | .ou s p => [.yD s p, .oF s (par p.val)]

/-- The slots that a neighbour's signal hands over. -/
def prL (s : Str) : List MA := (List.finRange (len s)).map (.pr s)

/-- The rounds of every semaphore. -/
def sched : Rounds.Schedule (GSem nD τ sig) Str 𝕄 where
  duties g r := if g.1.2 = .tc then
      (match g.2 with
      | .reg _ => if r = 0 then Finset.univ else ∅
      | .dma k => if (dec k.val r).isSome then {.x} else ∅)
    else ∅
  unitless _ := False
  amount g r _ := match g.2 with
    | .reg _ => 1
    | .dma k => ((dec k.val r).map amt).getD 1
  payload g r d := match g.2 with
    | .reg _ => mAs m g.1.1 (prL d)
    | .dma k => mAs m g.1.1 (((dec k.val r).map evL).getD [])
  amount_pos g r _ _ := by
    rcases g with ⟨_, s | k⟩
    · exact Nat.one_pos
    · show 0 < ((dec k.val r).map amt).getD 1
      cases dec k.val r with
      | none => exact Nat.one_pos
      | some e => exact amt_pos e

instance sched_storable (g : GSem nD τ sig) (r : ℕ) (d : Str) : BI.Storable (upEmb : UEmb _ 𝕄) ((sched m).payload g r d) := by
  rcases g with ⟨_, s | k⟩
  · exact mAs_storable m _ _
  · exact mAs_storable m _ _

/-! ### Its facts -/

section Facts
variable (c : Dev nD)

abbrev cell (c : Dev nD) (e : Ev) : GSem nD τ sig := ((c : Thread nD τ), .dma (semOf e))
abbrev barCell (c : Dev nD) : GSem nD τ sig := ((c : Thread nD τ), .reg barS)

theorem duties_ev (e : Ev) : (sched m).duties (cell c e) (rnd e) = {.x} := by
  show (if (dec (semOf e).val (rnd e)).isSome then ({.x} : Finset Str) else ∅) = _
  rw [dec_ev]; rfl

theorem mem_ev (e : Ev) : Str.x ∈ (sched m).duties (cell c e) (rnd e) := by
  rw [duties_ev]; exact Finset.mem_singleton_self _

theorem amount_ev (e : Ev) (d : Str) : (sched m).amount (cell c e) (rnd e) d = amt e := by
  show ((dec (semOf e).val (rnd e)).map amt).getD 1 = _
  rw [dec_ev]; rfl

theorem payload_ev (e : Ev) (d : Str) : (sched m).payload (cell c e) (rnd e) d = mAs m c (evL e) := by
  show mAs m c (((dec (semOf e).val (rnd e)).map evL).getD []) = _
  rw [dec_ev]; rfl

theorem expect_ev (e : Ev) : (sched m).expect (cell c e) (rnd e) = amt e := by
  unfold Schedule.expect Schedule.amountOf; rw [duties_ev, Finset.sum_singleton, amount_ev]

theorem rest_ev (e : Ev) : bigSep ((sched m).duties (cell c e) (rnd e) \ ∅) (fun d => (sched m).payload (cell c e) (rnd e) d)
    = mAs m c (evL e) := by
  rw [Finset.sdiff_empty, duties_ev, bigSep_singleton, payload_ev]

theorem duties_bar : (sched m).duties (barCell c) 0 = Finset.univ := rfl

theorem amount_bar (d : Str) : (sched m).amount (barCell c) 0 d = 1 := rfl

theorem payload_bar (d : Str) : (sched m).payload (barCell c) 0 d = mAs m c (prL d) := rfl

theorem expect_bar : (sched m).expect (barCell c) 0 = 3 := by
  unfold Schedule.expect Schedule.amountOf
  rw [duties_bar, Finset.sum_congr rfl fun d _ => amount_bar m c d]
  decide

theorem mAs_append (l l' : List MA) : mAs m c (l ++ l') = iprop(mAs m c l ∗ mAs m c l') := by
  unfold mAs; rw [bigSepL_append]

theorem rest_bar : bigSep ((sched m).duties (barCell c) 0 \ ∅) (fun d => (sched m).payload (barCell c) 0 d)
    = mAs m c (prL .x ++ (prL .y ++ prL .z)) := by
  rw [Finset.sdiff_empty, duties_bar, bigSep_univ_eq_bigSepL [.x, .y, .z] (by decide) (by decide), bigSepL_cons_cons,
    bigSepL_cons_cons, bigSepL_singleton, payload_bar, payload_bar, payload_bar, mAs_append, mAs_append]
  rfl

theorem duties_end (k : DmaSem sig) : ∀ r, rEnd k.val ≤ r → (sched m).duties ((c : Thread nD τ), .dma k) r = ∅ := fun r h => by
  show (if (dec k.val r).isSome then ({.x} : Finset Str) else ∅) = _
  rw [dec_none h]; rfl

theorem duties_bar_end : ∀ r, 1 ≤ r → (sched m).duties (barCell c) r = ∅ := fun r h => if_neg (show ¬ r = 0 by omega)

end Facts

end Cert.KernelIdeal.RS
-- ==== Proof.Ghost.lean ====
/- What a device holds while it runs, and the copies, the waits and the reads and writes of a slot, each as one rule. -/
module

public import proofs.«01_k».proof.Proof.Sched

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sharesN shares3)
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device still owes -/

/-- A debt: the signal to a neighbour, a send's units at its target. -/
inductive Ow
  | bar (s : Str)
  | rc (s : Str) (q : Fin (len s))
  deriving DecidableEq

/-- The debts of the body, in its order. -/
def owL : List Ow := script.filterMap fun
  | .sig s => some (.bar s)
  | .snd s q => some (.rc s q)
  | _ => none

/-- The place of a send among the body's sends. -/
def place : (s : Str) → Fin (len s) → ℕ
  | .x, q => (![0, 1, 4, 7, 9, 12, 15, 17, 20, 23, 25, 28] : Fin 12 → ℕ) q
  | .y, q => (![2, 8, 10, 16, 18, 24, 26, 31] : Fin 8 → ℕ) q
  | .z, q => (![3, 5, 6, 11, 13, 14, 19, 21, 22, 27, 29, 30] : Fin 12 → ℕ) q

def tal (c : Dev nD) : Ow → CellTallies nD τ sig Unit
  | .bar s => tallyAt (barCell (peer s c)) () 1
  | .rc s q => tallyAt (cell (peer s c) (.rc s q)) () Nb

def owed (c : Dev nD) : List Ow → CellTallies nD τ sig Unit
  | [] => 0
  | a :: l => owed c l + tal c a

def L (g : GSem nD τ sig) : Finset Unit := if g.1.2 = .tc then {()} else ∅

/-- The level of a semaphore: its owner may wait for it while it owes only at higher ones. -/
def lvS : SemLoc sig → ℕ
  | .reg _ => 1
  | .dma k => match dec k.val 0 with
    | some (.rc s q) => 2 + place s q
    | _ => 0

def lv (g : GSem nD τ sig) (_ : Unit) : ℕ := lvS g.2

def lvO : Ow → ℕ
  | .bar _ => 1
  | .rc s q => 2 + place s q

theorem L_of_ne (g : GSem nD τ sig) (h : g.1.2 ≠ .tc) : L g = ∅ := if_neg h
theorem L_tc (c : Dev nD) (sm : SemLoc sig) : L ((c : Thread nD τ), sm) = {()} := if_pos rfl

theorem lvS_rc (s : Str) (q : Fin (len s)) : lvS (.dma (semOf (.rc s q))) = 2 + place s q := by
  show (match dec (semOf (.rc s q)).val (rnd (.rc s q)) with | some (.rc s q) => 2 + place s q | _ => 0) = _
  rw [dec_ev]

theorem owed_pos {c : Dev nD} {g : GSem nD τ sig} {u : Unit} : ∀ {l : List Ow}, 0 < owed c l g u →
    ∃ o ∈ l, lvS g.2 = lvO o ∧ g.1.2 = .tc
  | [], h => absurd h (Nat.lt_irrefl 0)
  | a :: l, h => by
    have h' : 0 < owed c l g u + tal c a g u := h
    rcases Nat.eq_zero_or_pos (tal c a g u) with h0 | h0
    · rw [h0, Nat.add_zero] at h'
      obtain ⟨o, ho, hl⟩ := owed_pos h'
      exact ⟨o, List.mem_cons_of_mem _ ho, hl⟩
    · refine ⟨a, List.mem_cons_self, ?_⟩
      cases a with
      | bar s =>
        unfold tal at h0
        rw [tallyAt_apply] at h0
        split at h0
        · next hg => rw [hg.1]; exact ⟨rfl, rfl⟩
        · exact absurd h0 (Nat.lt_irrefl 0)
      | rc s q =>
        unfold tal at h0
        rw [tallyAt_apply] at h0
        split at h0
        · next hg => rw [hg.1]; exact ⟨lvS_rc s q, rfl⟩
        · exact absurd h0 (Nat.lt_irrefl 0)

/-- A wait is allowed below everything that is still owed. -/
def waitOk (sm : SemLoc sig) (l : List Ow) : Bool := l.all fun o => Nat.blt (lvS sm) (lvO o)

omit [FloatOps F] in
theorem mayWait (c : Dev nD) (sm : SemLoc sig) (l : List Ow) (h : waitOk sm l = true) :
    (levAts L lv : sProp 𝕄) ⊢ MayWait (c : Thread nD τ) sm () (owed c l) := by
  have h' : ∀ o ∈ l, lvS sm < lvO o := fun o ho => by
    have := List.all_eq_true.mp h o ho
    exact Nat.blt_eq.mp this
  refine MayOwe.of_cut (L := L) (lev := lv) (lvS sm) (fun p hp => by rw [Finset.mem_singleton.mp hp, L_tc]; exact Finset.mem_singleton_self _)
    (fun g u hg => ?_) (fun p hp => by rw [Finset.mem_singleton.mp hp]; exact le_refl _) (fun g u hg => ?_)
  · obtain ⟨o, _, _, ht⟩ := owed_pos hg
    unfold L; rw [if_pos ht]; exact Finset.mem_singleton_self _
  · obtain ⟨o, ho, hl, _⟩ := owed_pos hg
    show lvS sm < lvS g.2
    rw [hl]; exact h' o ho

/-! ## What every device knows -/

abbrev kcell (ck : Dev nD × SemLoc sig) : GSem nD τ sig := ((ck.1 : Thread nD τ), ck.2)

/-- Every semaphore of every device is under the protocol, at round 0 or later; the levels. -/
def Inv (K : Dev nD × SemLoc sig → ℕ) : sProp 𝕄 :=
  iprop((bigSep Finset.univ fun ck : Dev nD × SemLoc sig => iprop(cellInv ER (sched m) (K ck) (kcell ck) ∗ reached ER (kcell ck) 0)) ∗ levAts L lv)

instance Inv_persistent (K : Dev nD × SemLoc sig → ℕ) : BI.Persistent (Inv m K) := by unfold Inv; infer_instance

theorem Inv_cell (K : Dev nD × SemLoc sig → ℕ) (c : Dev nD) (sm : SemLoc sig) :
    Inv m K ⊢ iprop(cellInv ER (sched m) (K (c, sm)) ((c : Thread nD τ), sm) ∗ reached ER ((c : Thread nD τ), sm) 0) := by
  unfold Inv
  iintro ⟨H, -⟩
  have h : (bigSep Finset.univ fun ck : Dev nD × SemLoc sig => iprop(cellInv ER (sched m) (K ck) (kcell ck) ∗ reached ER (kcell ck) 0))
      ⊢ iprop(cellInv ER (sched m) (K (c, sm)) ((c : Thread nD τ), sm) ∗ reached ER ((c : Thread nD τ), sm) 0) :=
    bigSep_elim (Finset.mem_univ ((c, sm) : Dev nD × SemLoc sig))
  iapply h; iexact H

theorem Inv_lev (K : Dev nD × SemLoc sig → ℕ) : Inv m K ⊢ levAts L lv := by
  unfold Inv
  iintro ⟨-, H⟩
  iexact H

/-! ## What a device holds -/

inductive Atom
  /-- a piece of memory -/
  | mem (a : MA)
  /-- the owner's place at one of its semaphores -/
  | pos (k : DmaSem sig) (r : ℕ)
  | posB (r : ℕ)
  /-- the right to pay a landing, a signal -/
  | tk (e : Ev)
  | tkB (s : Str)
  /-- the promise of a landing, of the three signals -/
  | cr (e : Ev)
  | crB
  deriving DecidableEq

/-- Whose semaphore a landing is paid to. -/
def tgt (c : Dev nD) : Ev → Dev nD
  | .rc s _ => peer s c
  | _ => c

def gA (c : Dev nD) : Atom → sProp 𝕄
  | .mem a => mA m c a
  | .pos k r => iprop(atPos ER ((c : Thread nD τ), .dma k) r ∅ 0 ∗ reached ER ((c : Thread nD τ), .dma k) r)
  | .posB r => atPos ER (barCell c) r ∅ 0
  | .tk e => dutyTok ER (cell (tgt c e) e) (rnd e) .x
  | .tkB s => dutyTok ER (barCell (peer s c)) 0 s
  | .cr e => cred (tallyAt (cell c e) () (amt e))
  | .crB => cred (tallyAt (barCell c) () 3)

def gAs (c : Dev nD) (l : List Atom) : sProp 𝕄 := bigSepL l (gA m c)

def owE (c : Dev nD) (l : List Ow) : sProp 𝕄 := iprop(∃ W : Waits sig Unit, owes (c : Thread nD τ) (owed c l) W)

theorem gAs_nil (c : Dev nD) : gAs m c [] = iprop(emp) := rfl
theorem gAs_cons (c : Dev nD) (a : Atom) (l : List Atom) : gAs m c (a :: l) = iprop(gA m c a ∗ gAs m c l) := bigSepL_cons' _ _ _
theorem gAs_append (c : Dev nD) (l l' : List Atom) : gAs m c (l ++ l') = iprop(gAs m c l ∗ gAs m c l') := by
  unfold gAs; rw [bigSepL_append]
theorem gAs_mem (c : Dev nD) (l : List MA) : gAs m c (l.map .mem) = mAs m c l := by
  unfold gAs mAs; rw [bigSepL_map]; rfl

/-! ## The rules -/

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable (K : Dev nD × SemLoc sig → ℕ) (c : Dev nD)

/-- A local copy: it pays a landing on the device's own semaphore. -/
theorem wp_cp (e : Ev) (he : tgt c e = c) {sp sp' : Space} {el : EltTy} {src : Memref sig .tc sp S256x1024 el} {dst : Memref sig .tc sp' S256x1024 el}
    {hsrc : src.view.WordExact} {hdst : dst.view.WordExact} {hsem : DmaTarget.Typed (nD := nD) (τ := τ) (p := .tc) sp (.dma (semOf e)) (.here dst)}
    {q : PosShare TreeShare} {w : Chunk F el} (hN : dst.view.dmaCredit = amt e)
    (hpay : iprop(hold c dst fullShare w ∗ hold c src q w) ⊢ mAs m c (evL e))
    {α : Type} {Q : α → sProp 𝕄} {k : PUnit → Prog (TpuEff nD τ sig (Elt F) Λ₀ .tc) α} :
    iprop(Inv m K ∗ hold c src q w ∗ free c dst ∗ gA m c (.tk e) ∗ gA m c (.pos (semOf e) (rnd e)))
      ⊢ iprop(((gA m c (.cr e) ∗ gA m c (.pos (semOf e) (rnd e))) -∗ WP c (k ⟨⟩) Q)
          -∗ WP c (.op (.enqueueDma src (.here dst) (.dma (semOf e)) hsrc hdst hsem) k) Q) := by
  simp only [gA, he]
  iintro ⟨#HI, Hs, Hd, Ht, Hat, #Hr⟩ Hk
  ihave #Hc := (Inv_cell m K c (.dma (semOf e))) $$ HI
  icases Hc with ⟨#Hc, -⟩
  unfold free hold owns
  icases Hs with ⟨%fs, %hfs, Hs⟩
  icases Hd with ⟨%w', %fd, -, Hd⟩
  iapply (Rounds.wp_copy_pointsTo 𝒱₀ ER (sched m) (c : Thread nD τ) none (κ := K (c, .dma (semOf e))) (r := rnd e) (d := .x) (q := q) (fs := fs) (fd := fd)
      (mem_ev m c e) () (amt e) hN (amount_ev m c e .x)
      (by
        rw [payload_ev]
        refine BIBase.Entails.trans ?_ hpay
        unfold hold owns
        iintro ⟨H1, H2⟩
        isplitl [H1]
        · iexists (dst.view.write (Elt F) fd (src.view.read (Elt F) fs) Finset.univ); isplitr [H1]
          · ipureintro; exact (View.read_write_univ _ _).trans hfs
          · iexact H1
        · iexists fs; isplitr [H2]
          · ipureintro; exact hfs
          · iexact H2)) $$ [Hs Hd Ht]
  · isplitr; · iexact Hc
    isplitl [Hs]; · iexact Hs
    isplitl [Hd]; · iexact Hd
    isplitl [Ht]; · iexact Ht
    iexact Hr
  iintro Hcr
  iapply Hk
  isplitl [Hcr]; · iexact Hcr
  isplitl [Hat]; · iexact Hat
  iexact Hr

/-- A send: it pays a landing on the device's own semaphore and one on the neighbour's. -/
theorem wp_sd (s : Str) (q : Fin (len s)) (n : Dev nD) (hn : n = peer s c) {src : Memref sig .tc .vmem S256x1024 .bf16}
    {hsc : (slot (rcvB s) q).view.ref.isScScratch = false}
    {hsrc : src.view.WordExact} {hdst : (slot (rcvB s) q).view.WordExact}
    {hsem : DmaTarget.Typed .vmem (.dma (semOf (.rc s q))) (.remote (Dev.tc n : Thread nD τ) (slot (rcvB s) q) (.dma (semOf (.sd s q))) hsc)}
    {qs : PosShare TreeShare} {w : Chunk F .bf16} (l : List Ow)
    (hN : (slot (rcvB s) q).view.dmaCredit = Nb)
    (hpay₁ : hold c src qs w ⊢ mAs m c (evL (.sd s q)))
    (hpay₂ : hold (peer s c) (slot (rcvB s) q) fullShare w ⊢ mAs m (peer s c) (evL (.rc s q)))
    {α : Type} {Q : α → sProp 𝕄} {k : PUnit → Prog (TpuEff nD τ sig (Elt F) Λ₀ .tc) α} :
    iprop(Inv m K ∗ hold c src qs w ∗ gA m c (.mem (.pr s q)) ∗ owE c (.rc s q :: l) ∗ gA m c (.tk (.sd s q)) ∗ gA m c (.tk (.rc s q))
        ∗ gA m c (.pos (semOf (.sd s q)) (rnd (.sd s q))))
      ⊢ iprop(((gA m c (.cr (.sd s q)) ∗ owE c l ∗ gA m c (.pos (semOf (.sd s q)) (rnd (.sd s q)))) -∗ WP c (k ⟨⟩) Q)
          -∗ WP c (.op (.enqueueDma src (.remote (Dev.tc n : Thread nD τ) (slot (rcvB s) q) (.dma (semOf (.sd s q))) hsc) (.dma (semOf (.rc s q)))
                hsrc hdst hsem) k) Q) := by
  subst hn
  simp only [gA, mA, tgt, owE]
  iintro ⟨#HI, Hs, Hd, ⟨%W, HO⟩, Ht1, Ht2, Hat, #Hr⟩ Hk
  ihave #Hc := (Inv_cell m K c (.dma (semOf (.sd s q)))) $$ HI
  icases Hc with ⟨#Hc, -⟩
  ihave #Hc' := (Inv_cell m K (peer s c) (.dma (semOf (.rc s q)))) $$ HI
  icases Hc' with ⟨#Hc', #Hr'⟩
  unfold free hold owns
  icases Hs with ⟨%fs, %hfs, Hs⟩
  icases Hd with ⟨%w', %fd, -, Hd⟩
  iapply (Rounds.wp_send_pointsTo 𝒱₀ ER (sched m) (c : Thread nD τ) none (κ₁ := K (c, .dma (semOf (.sd s q)))) (κ₂ := K (peer s c, .dma (semOf (.rc s q))))
      (r₁ := rnd (.sd s q)) (r₂ := rnd (.rc s q)) (d₁ := .x) (d₂ := .x) (q := qs) (fs := fs) (fd := fd)
      (mem_ev m c (.sd s q)) (mem_ev m (peer s c) (.rc s q)) () () Nb hN (amount_ev m c (.sd s q) .x) (amount_ev m (peer s c) (.rc s q) .x)
      (owed c l) rfl (W := W)
      (by
        rw [payload_ev]
        refine BIBase.Entails.trans ?_ hpay₁
        unfold hold owns
        iintro H2
        iexists fs; isplitr [H2]
        · ipureintro; exact hfs
        · iexact H2)
      (by
        rw [payload_ev]
        refine BIBase.Entails.trans ?_ hpay₂
        unfold hold owns
        iintro H1
        iexists ((slot (rcvB s) q).view.write (Elt F) fd (src.view.read (Elt F) fs) Finset.univ); isplitr [H1]
        · ipureintro; exact (View.read_write_univ _ _).trans hfs
        · iexact H1)) $$ [Hs Hd Ht1 Ht2 HO]
  · isplitr; · iexact Hc
    isplitr; · iexact Hc'
    isplitl [Hs]; · iexact Hs
    isplitl [Hd]; · iexact Hd
    isplitl [HO]; · iexact HO
    isplitl [Ht1]; · iexact Ht1
    isplitr; · iexact Hr
    isplitl [Ht2]; · iexact Ht2
    iexact Hr'
  iintro ⟨Hcr, HO⟩
  iapply Hk
  isplitl [Hcr]; · iexact Hcr
  isplitl [HO]; · iexists W; iexact HO
  isplitl [Hat]; · iexact Hat
  iexact Hr

/-- A wait for a landing: it hands over what the landing carries. -/
theorem wp_wt (e : Ev) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.dma (semOf e)) k' Kt)
    (hN : k' = amt e) (l : List Ow) (hl : waitOk (.dma (semOf e)) l = true)
    {α : Type} {Q : α → sProp 𝕄} {k : PUnit → Prog (TpuEff nD τ sig (Elt F) Λ₀ .tc) α} :
    iprop(Inv m K ∗ gA m c (.cr e) ∗ gA m c (.pos (semOf e) (rnd e)) ∗ owE c l)
      ⊢ iprop(((gA m c (.pos (semOf e) (rnd e + 1)) ∗ mAs m c (evL e) ∗ owE c l) -∗ WP c (k ⟨⟩) Q) -∗ WP c (.op w k) Q) := by
  subst hN
  simp only [gA, owE]
  iintro ⟨#HI, Hcr, ⟨Hat, -⟩, %W, HO⟩ Hk
  ihave #Hc := (Inv_cell m K c (.dma (semOf e))) $$ HI
  icases Hc with ⟨#Hc, -⟩
  ihave #Hlev := (Inv_lev m K) $$ HI
  iapply (Rounds.wp_wait_rest_token 𝒱₀ ER (sched m) (c : Thread nD τ) none (κ := K (c, .dma (semOf e))) hw (Set.mem_univ _) ()
      (O := owed c l) (W := W) (R := rnd e) (m := 0) (T := ∅) (by rw [Nat.zero_add, expect_ev])) $$ [Hcr HO Hat]
  · isplitr; · iexact Hc
    isplitl [Hcr]; · iexact Hcr
    isplitl [HO]; · iexact HO
    isplitr; · iapply (mayWait c (.dma (semOf e)) l hl); iexact Hlev
    iexact Hat
  iintro ⟨HO, Hat, Hr, Hpay⟩
  ihave Hp := (Entails.of_eq (rest_ev m c e)) $$ Hpay
  iapply Hk
  isplitl [Hat Hr]
  · isplitl [Hat] <;> iassumption
  isplitl [Hp]; · iexact Hp
  iexists _; iexact HO

/-- A slot read. -/
theorem wp_rd {n : ℕ} {el : EltTy} (b : Memref sig .tc .vmem (Sn n) el) (i : Fin n) {q : PosShare TreeShare} {w : Chunk F el}
    {hl : b.view.LoadsAt (slotR n i).toLoadRect}
    {α : Type} {Q : α → sProp 𝕄} {k : Vec F S1x256x1024 el → Prog (TpuEff nD τ sig (Elt F) Λ₀ .tc) α} :
    hold c (slot b i) q w
      ⊢ iprop((∀ v : Vec F S1x256x1024 el, ⌜shapeCast S256x1024 v shapeCasts_S1x256x1024_S256x1024 = w⌝ -∗ hold c (slot b i) q w -∗ WP c (k v) Q)
          -∗ WP c (.op (.load b (slotR n i).toLoadRect hl) k) Q) := by
  unfold hold owns
  iintro ⟨%f, %hf, H⟩ Hk
  iapply (wp_load_rect 𝒱₀ (c : Thread nD τ) none Set.univ (m := b) (r := slotR n i) (S := (slot b i).view.set) (q := q) (f := f)
    (le_of_eq (View.set_reshape (b.access (slotR n i)) _).symm)) $$ H
  iintro H
  iapply Hk $$ [] [H]
  · ipureintro; exact hf
  · iexists f; isplitr [H]
    · ipureintro; exact hf
    · iexact H

/-- A slot overwritten. -/
theorem wp_wrt {n : ℕ} {el : EltTy} (b : Memref sig .tc .vmem (Sn n) el) (i : Fin n) (v : Vec F S1x256x1024 el)
    {hx : (b.access (slotR n i)).Stores (Finset.univ : Finset (slotR n i).shape.Idx)} {hm}
    {α : Type} {Q : α → sProp 𝕄} {k : PUnit → Prog (TpuEff nD τ sig (Elt F) Λ₀ .tc) α} :
    free c (slot b i)
      ⊢ iprop((hold c (slot b i) fullShare (shapeCast S256x1024 v shapeCasts_S1x256x1024_S256x1024) -∗ WP c (k ⟨⟩) Q)
          -∗ WP c (.op (.store b (slotR n i) v Finset.univ hx hm) k) Q) := by
  unfold free hold owns
  iintro ⟨%w, %f, -, H⟩ Hk
  iapply (wp_store 𝒱₀ (c : Thread nD τ) none Set.univ (m := b) (r := slotR n i) (Mk := Finset.univ) (S := (slot b i).view.set) (f := f)
    (le_of_eq (View.set_reshape (b.access (slotR n i)) _).symm)) $$ H
  iintro H
  iapply Hk
  iexists _; isplitr [H]
  · ipureintro
    exact congrArg (fun v => shapeCast S256x1024 v shapeCasts_S1x256x1024_S256x1024) (View.read_write_univ (v := b.access (slotR n i)) f v)
  · iexact H

end Rules

end Cert.KernelIdeal.RS
-- ==== Proof.Steps.lean ====
/- Each step of the body, from what it needs to what it leaves. -/
module

public import proofs.«01_k».proof.Proof.Ghost
public import Idealize.ShloMosaic.Lib.Pipeline.Value

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sharesN shares3)
open Cert.KernelIdeal.Gen

variable {F : FTy → Type} [FloatOps F]

local notation "𝕄" => MT nD τ sig Unit (Elt F) ℕ UU ℕ

variable (m : (ℓ : Loc nD τ sig) → Buf (Elt F) ℓ)

/-! ## What a step needs, and what it leaves -/

/-- What the issue of a copy takes beside its memory, and what a wait takes. -/
def posOf (e : Ev) : Atom := .pos (semOf e) (rnd e)
def posAfter (e : Ev) : Atom := .pos (semOf e) (rnd e + 1)

def ownL (s : Str) : List MA := (List.finRange (len s)).map (.own s)

def preC (e : Ev) (l : List MA) : List Atom := posOf e :: .tk e :: l.map .mem
def postC (e : Ev) : List Atom := [posOf e, .cr e]
def preW (e : Ev) : List Atom := [.cr e, posOf e]
def postW (e : Ev) : List Atom := posAfter e :: (evL e).map .mem

def pre : Op → List Atom
  | .sig s => .tkB s :: (ownL s).map .mem
  | .bar => [.crB, .posB 0]
  | .ldC i => preC (.cv i) [.xC i, .cF (par i.val)]
  | .wtC i => preW (.cv i)
  | .cast i => [.mem (.cH i), .mem (.bF (qtr i.val))]
  | .snd s q => .tk (.rc s q) :: preC (.sd s q) [srcA s q, .pr s q]
  | .wr s q => preW (.rc s q)
  | .ws s q => preW (.sd s q)
  | .ldL s p => preC (.lo s p) [.xL s p, .lF s (par p.val)]
  | .wtL s p => preW (.lo s p)
  | .add s p => [.mem (.lH s p), .mem (.rp s (ord s p) 0), .mem (.oF s (par p.val))]
  | .stO s p => preC (.ou s p) [.oH s p, .yF s p]
  | .wtO s p => preW (.ou s p)

def post : Op → List Atom
  | .sig _ => []
  | .bar => .posB 1 :: (prL .x ++ (prL .y ++ prL .z)).map .mem
  | .ldC i => postC (.cv i)
  | .wtC i => postW (.cv i)
  | .cast i => [.mem (.cF (par i.val)), .mem (.bH i)]
  | .snd s q => postC (.sd s q)
  | .wr s q => postW (.rc s q)
  | .ws s q => postW (.sd s q)
  | .ldL s p => postC (.lo s p)
  | .wtL s p => postW (.lo s p)
  | .add s p => [.mem (.lF s (par p.val)), .mem (.rp s (ord s p) 0), .mem (.oH s p)]
  | .stO s p => postC (.ou s p)
  | .wtO s p => postW (.ou s p)

/-- A wait's debts. -/
def okW (sm : SemLoc sig) (l : List Ow) : Option (List Ow) := if waitOk sm l then some l else none

theorem okW_eq {sm : SemLoc sig} {l l' : List Ow} (h : okW sm l = some l') : waitOk sm l = true ∧ l = l' := by
  unfold okW at h
  split at h
  · next hl => exact ⟨hl, Option.some.inj h⟩
  · exact absurd h (by simp)

/-- The first debt, paid. -/
def pay (o : Ow) : List Ow → Option (List Ow)
  | [] => none
  | a :: l => if a = o then some l else none

theorem pay_eq {o : Ow} {l l' : List Ow} (h : pay o l = some l') : l = o :: l' := by
  cases l with
  | nil => exact absurd h (by simp [pay])
  | cons a l =>
    simp only [pay] at h
    split at h
    · next ha => rw [ha, Option.some.inj h]
    · exact absurd h (by simp)

/-- What a step makes of the debts. -/
def okO : Op → List Ow → Option (List Ow)
  | .sig s, l => pay (.bar s) l
  | .bar, l => okW (.reg barS) l
  | .wtC i, l => okW (.dma (semOf (.cv i))) l
  | .snd s q, l => pay (.rc s q) l
  | .wr s q, l => okW (.dma (semOf (.rc s q))) l
  | .ws s q, l => okW (.dma (semOf (.sd s q))) l
  | .wtL s p, l => okW (.dma (semOf (.lo s p))) l
  | .wtO s p, l => okW (.dma (semOf (.ou s p))) l
  | _, l => some l

/-! ## The steps -/

theorem credR (s : Str) (q : Fin (len s)) : (slot (rcvB s) q).view.dmaCredit = Nb := by cases s <;> rfl
theorem credS (s : Str) (q : Fin (len s)) : (srcM s q).view.dmaCredit = Nb := by
  cases s with
  | x => rfl
  | y => rfl
  | z =>
    show (srcZ q).view.dmaCredit = Nb
    unfold srcZ
    split <;> rfl
theorem credL (s : Str) (k : Fin 2) : (slot (locB s) k).view.dmaCredit = Nf := by cases s <;> rfl
theorem credO (c : Dev nD) (s : Str) (p : Fin (len s)) : (oAt (offO c s p) (offO_inb c s p)).view.dmaCredit = Nb := by cases s <;> rfl

section Steps
variable (K : Dev nD × SemLoc sig → ℕ) (c : Dev nD)

theorem wp_done {Q : PUnit → sProp 𝕄} : Q ⟨⟩ ⊢ WP c (.ret ⟨⟩) Q := by
  unfold WP
  rw [wp_ret]
  iintro H; imodintro; iexact H

/-- A local copy as a step. -/
theorem st_cp (e : Ev) (he : tgt c e = c) {sp sp' : Space} {el : EltTy} {src : Memref sig .tc sp S256x1024 el} {dst : Memref sig .tc sp' S256x1024 el}
    {hsrc : src.view.WordExact} {hdst : dst.view.WordExact} {hsem : DmaTarget.Typed (nD := nD) (τ := τ) (p := .tc) sp (.dma (semOf e)) (.here dst)}
    {q : PosShare TreeShare} {w : Chunk F el} (a b : MA) (ha : mA m c a = hold c src q w) (hb : mA m c b = free c dst)
    (hN : dst.view.dmaCredit = amt e) (hpay : iprop(hold c dst fullShare w ∗ hold c src q w) ⊢ mAs m c (evL e)) (l : List Ow) :
    iprop(Inv m K ∗ gAs m c (preC e [a, b]) ∗ owE c l)
      ⊢ WP c (Prog.lift (.enqueueDma src (.here dst) (.dma (semOf e)) hsrc hdst hsem)) (fun _ => iprop(gAs m c (postC e) ∗ owE c l)) := by
  have hA : ∀ a, gA m c (.mem a) = mA m c a := fun _ => rfl
  simp only [preC, postC, posOf, List.map_cons, List.map_nil, gAs_cons, gAs_nil, hA, ha, hb, Prog.lift]
  iintro ⟨HI, ⟨Hp, Ht, Hs, Hd, -⟩, HO⟩
  iapply (wp_cp m K c e he hN hpay) $$ [HI Hp Ht Hs Hd]
  · isplitl [HI]; · iexact HI
    isplitl [Hs]; · iexact Hs
    isplitl [Hd]; · iexact Hd
    isplitl [Ht]; · iexact Ht
    iexact Hp
  iintro ⟨Hcr, Hp⟩
  iapply (wp_done c)
  isplitr [HO]
  · isplitl [Hp]; · iexact Hp
    isplitl [Hcr]; · iexact Hcr
    iempintro
  iexact HO

/-- A wait as a step. -/
theorem st_wt (e : Ev) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.dma (semOf e)) k' Kt)
    (hN : k' = amt e) {l l' : List Ow} (h : okW (.dma (semOf e)) l = some l') :
    iprop(Inv m K ∗ gAs m c (preW e) ∗ owE c l) ⊢ WP c (Prog.lift w) (fun _ => iprop(gAs m c (postW e) ∗ owE c l')) := by
  obtain ⟨hl, rfl⟩ := okW_eq h
  simp only [preW, postW, posOf, posAfter, gAs_cons, gAs_nil, gAs_mem, Prog.lift]
  iintro ⟨HI, ⟨Hcr, Hp, -⟩, HO⟩
  iapply (wp_wt m K c e hw hN l hl) $$ [HI Hcr Hp HO]
  · isplitl [HI]; · iexact HI
    isplitl [Hcr]; · iexact Hcr
    isplitl [Hp]; · iexact Hp
    iexact HO
  iintro ⟨Hp, Hm, HO⟩
  iapply (wp_done c)
  isplitr [HO]
  · isplitl [Hp]; · iexact Hp
    iexact Hm
  iexact HO

theorem mAs_one (a : MA) : mAs m c [a] = mA m c a := rfl

/-- A send's source, and what comes back of it. -/
theorem srcA_eq (s : Str) (q : Fin (len s)) : ∃ qs, mA m c (srcA s q) = hold c (srcM s q) qs (sv m c s q)
    ∧ (hold c (srcM s q) qs (sv m c s q) ⊢ mA m c (retA s q)) := by
  cases s with
  | x =>
    refine ⟨fullShare, rfl, ?_⟩
    simp only [retA, mA, free]
    unfold hold
    iintro H
    iexists _; iexact H
  | y => exact ⟨_, rfl, .rfl⟩
  | z =>
    by_cases h : q.val % 3 = 2
    · have e1 : srcA .z q = .rp .y (at' .y (2 * (q.val / 3))) 2 := by simp only [srcA, srcZA, h]
      have e2 : srcM .z q = slot (rcvB .y) (at' .y (2 * (q.val / 3))) := by simp only [srcM, srcZ, h]
      have e3 : sv m c .z q = rv m c .y (at' .y (2 * (q.val / 3))) := by simp only [sv, svZ, h]; rfl
      rw [show retA .z q = srcA .z q from rfl, e1, e2, e3]
      exact ⟨_, rfl, .rfl⟩
    · have e1 : srcA .z q = .rp .x q 2 := by
        show srcZA q = _
        unfold srcZA; split
        · next h' => exact absurd h' h
        · rfl
      have e2 : srcM .z q = slot (rcvB .x) q := by
        show srcZ q = _
        unfold srcZ; split
        · next h' => exact absurd h' h
        · rfl
      have e3 : sv m c .z q = rv m c .x q := by
        show svZ m c q = _
        unfold svZ; split
        · next h' => exact absurd h' h
        · rfl
      rw [show retA .z q = srcA .z q from rfl, e1, e2, e3]
      exact ⟨_, rfl, .rfl⟩

/-- A chunk in three shares. -/
theorem hold_thirds {sp : Space} {e : EltTy} (r : Memref sig .tc sp S256x1024 e) (w : Chunk F e) :
    hold c r fullShare w ⊢ iprop(hold c r (shares3 fullShare 0) w ∗ hold c r (shares3 fullShare 1) w ∗ hold c r (shares3 fullShare 2) w) := by
  unfold hold owns
  iintro ⟨%f, %hf, H⟩
  ihave H' := (Ring.pointsTo_thirds fullShare _).1 $$ H
  icases H' with ⟨H0, H1, H2⟩
  isplitl [H0]
  · iexists f; isplitr [H0]
    · ipureintro; exact hf
    · iexact H0
  isplitl [H1]
  · iexists f; isplitr [H1]
    · ipureintro; exact hf
    · iexact H1
  iexists f; isplitr [H2]
  · ipureintro; exact hf
  · iexact H2

/-- A send's landing at its target. -/
theorem land (s : Str) (q : Fin (len s)) :
    hold (peer s c) (slot (rcvB s) q) fullShare (sv m c s q) ⊢ mAs m (peer s c) (evL (.rc s q)) := by
  have hr : rv m (peer s c) s q = sv m c s q := by unfold rv; rw [peer_peer]
  show _ ⊢ iprop(mA m (peer s c) (.rp s q 0) ∗ mA m (peer s c) (.rp s q 1) ∗ mA m (peer s c) (.rp s q 2))
  simp only [mA, hr]
  exact hold_thirds (peer s c) _ _

theorem st_snd (s : Str) (q : Fin (len s)) {l l' : List Ow} (h : pay (.rc s q) l = some l') :
    iprop(Inv m K ∗ gAs m c (pre (.snd s q)) ∗ owE c l) ⊢ WP c (prog c (.snd s q)) (fun _ => iprop(gAs m c (post (.snd s q)) ∗ owE c l')) := by
  obtain rfl := pay_eq h
  obtain ⟨qs, ha, hret⟩ := srcA_eq m c s q
  have hA : gA m c (.mem (srcA s q)) = hold c (srcM s q) qs (sv m c s q) := ha
  simp only [pre, post, preC, postC, posOf, List.map_cons, List.map_nil, gAs_cons, gAs_nil, hA, prog, Prog.lift]
  iintro ⟨HI, ⟨Ht2, Hp, Ht1, Hs, Hd, -⟩, HO⟩
  iapply (wp_sd m K c s q (sndDev c s q) (sndDev_eq c s q) l' (credR s q) hret (land m c s q)) $$ [HI Hp Ht1 Ht2 Hs Hd HO]
  · isplitl [HI]; · iexact HI
    isplitl [Hs]; · iexact Hs
    isplitl [Hd]; · iexact Hd
    isplitl [HO]; · iexact HO
    isplitl [Ht1]; · iexact Ht1
    isplitl [Ht2]; · iexact Ht2
    iexact Hp
  iintro ⟨Hcr, HO, Hp⟩
  iapply (wp_done c)
  isplitr [HO]
  · isplitl [Hp]; · iexact Hp
    isplitl [Hcr]; · iexact Hcr
    iempintro
  iexact HO

/-- A neighbour's own slots are, to this device, the neighbour's slots. -/
theorem own_pr (s : Str) : mAs m c (ownL s) = mAs m (peer s c) (prL s) := by
  unfold mAs ownL prL
  rw [bigSepL_map, bigSepL_map]
  congr 1
  funext q
  show free c _ = free (peer s (peer s c)) _
  rw [peer_peer]

theorem st_sig (s : Str) {l l' : List Ow} (h : pay (.bar s) l = some l') :
    iprop(Inv m K ∗ gAs m c (pre (.sig s)) ∗ owE c l) ⊢ WP c (prog c (.sig s)) (fun _ => iprop(gAs m c (post (.sig s)) ∗ owE c l')) := by
  obtain rfl := pay_eq h
  simp only [pre, post, gAs_cons, gAs_nil, gAs_mem, prog, sigDev_eq, own_pr]
  simp only [gA, owE]
  iintro ⟨#HI, ⟨Ht, Hm⟩, %W, HO⟩
  ihave #Hc := (Inv_cell m K (peer s c) (.reg barS)) $$ HI
  icases Hc with ⟨#Hc, #Hr⟩
  unfold semSignalWord
  iapply (Rounds.wp_signal 𝒱₀ ER (sched m) (c : Thread nD τ) none (dst := (peer s c : Thread nD τ)) (κ := K (peer s c, .reg barS)) (r := 0) (d := s)
      (by rw [duties_bar]; exact Finset.mem_univ _) ((amount_bar m (peer s c) s).trans (by decide)) () (owed c l') rfl (W := W)) $$ [HO Ht Hm]
  · isplitr; · iexact Hc
    isplitl [HO]; · iexact HO
    isplitl [Ht]; · iexact Ht
    isplitl [Hm]; · rw [payload_bar]; iexact Hm
    iexact Hr
  iintro HO
  iapply (wp_done c)
  isplitr [HO]
  · iempintro
  iexists W; iexact HO

theorem st_bar {l l' : List Ow} (h : okW (.reg barS) l = some l') :
    iprop(Inv m K ∗ gAs m c (pre .bar) ∗ owE c l) ⊢ WP c (prog c .bar) (fun _ => iprop(gAs m c (post .bar) ∗ owE c l')) := by
  obtain ⟨hl, rfl⟩ := okW_eq h
  simp only [pre, post, gAs_cons, gAs_nil, gAs_mem, prog]
  simp only [gA, owE]
  iintro ⟨#HI, ⟨Hcr, Hat, -⟩, %W, HO⟩
  ihave #Hc := (Inv_cell m K c (.reg barS)) $$ HI
  icases Hc with ⟨#Hc, -⟩
  ihave #Hlev := (Inv_lev m K) $$ HI
  unfold semWaitWord
  iapply (Rounds.wp_wait_rest_token 𝒱₀ ER (sched m) (c : Thread nD τ) none (κ := K (c, .reg barS))
      (wpE_semWait_eq 𝒱₀ (c : Thread nD τ) none Set.univ) (Set.mem_univ _) () (O := owed c l) (W := W) (R := 0) (m := 0) (T := ∅)
      (by rw [expect_bar]; decide)) $$ [Hcr HO Hat]
  · isplitr; · iexact Hc
    isplitl [Hcr]; · iexact Hcr
    isplitl [HO]; · iexact HO
    isplitr; · iapply (mayWait c (.reg barS) l hl); iexact Hlev
    iexact Hat
  iintro ⟨HO, Hat, -, Hpay⟩
  ihave Hp := (Entails.of_eq (rest_bar m c)) $$ Hpay
  iapply (wp_done c)
  isplitr [HO]
  · isplitl [Hat] <;> iassumption
  iexists _; iexact HO

/-- The cast of a read chunk. -/
theorem castPay_eq (v : Vec F S1x256x1024 .f32) :
    shapeCast S256x1024 (castPay (F := F) v) shapeCasts_S1x256x1024_S256x1024 = castV (shapeCast S256x1024 v shapeCasts_S1x256x1024_S256x1024) := by
  unfold castPay k0_pay1 castV
  dsimp only
  exact shapeCast_shapeCast _ _ _

theorem addPay_eq (v : Vec F S1x256x1024 .f32) (w : Vec F S1x256x1024 .bf16) :
    shapeCast S256x1024 (addPay (F := F) v w) shapeCasts_S1x256x1024_S256x1024
      = addV (shapeCast S256x1024 v shapeCasts_S1x256x1024_S256x1024) (shapeCast S256x1024 w shapeCasts_S1x256x1024_S256x1024) := by
  unfold addPay k0_pay3 addV
  dsimp only
  exact shapeCast_shapeCast _ _ _

theorem free_hold {sp : Space} {e : EltTy} (r : Memref sig .tc sp S256x1024 e) (w : Chunk F e) : hold c r fullShare w ⊢ free c r := by
  unfold free hold
  iintro H
  iexists w; iexact H

theorem free_eq {sp : Space} {e : EltTy} (r : Memref sig .tc sp S256x1024 e) :
    (free c r : sProp 𝕄) = iprop(∃ w : Chunk F e, hold c r fullShare w) := rfl

theorem st_cast (i : Fin 12) (l : List Ow) :
    iprop(Inv m K ∗ gAs m c (pre (.cast i)) ∗ owE c l) ⊢ WP c (prog c (.cast i)) (fun _ => iprop(gAs m c (post (.cast i)) ∗ owE c l)) := by
  simp only [pre, post, gAs_cons, gAs_nil, prog]
  simp only [gA, mA, rd, wrt, Prog.lift, Prog.bind_op, Prog.bind_ret]
  iintro ⟨-, ⟨Hs, Hd, -⟩, HO⟩
  iapply (wp_rd c cvtB (par i.val)) $$ Hs
  iintro %v %hv Hs
  ihave Hd := (Entails.of_eq (free_eq c _)) $$ Hd
  icases Hd with ⟨%w', Hd⟩
  iapply (wp_rd c sndB (qtr i.val)) $$ Hd
  iintro %v' %hv' Hd
  ihave Hd := (free_hold c _ _) $$ Hd
  iapply (wp_wrt c sndB (qtr i.val) (castPay v)) $$ Hd
  iintro Hd
  iapply (wp_done c)
  isplitr [HO]
  · isplitl [Hs]
    · ihave H := (free_hold c _ _) $$ Hs
      iexact H
    isplitl [Hd]
    · rw [castPay_eq, hv]; iexact Hd
    iempintro
  iexact HO

theorem st_add (s : Str) (p : Fin (len s)) (l : List Ow) :
    iprop(Inv m K ∗ gAs m c (pre (.add s p)) ∗ owE c l) ⊢ WP c (prog c (.add s p)) (fun _ => iprop(gAs m c (post (.add s p)) ∗ owE c l)) := by
  simp only [pre, post, gAs_cons, gAs_nil, prog]
  simp only [gA, mA, rd, wrt, Prog.lift, Prog.bind_op, Prog.bind_ret]
  iintro ⟨-, ⟨Hs, Hr, Hd, -⟩, HO⟩
  iapply (wp_rd c (locB s) (par p.val)) $$ Hs
  iintro %v %hv Hs
  iapply (wp_rd c (rcvB s) (ord s p)) $$ Hr
  iintro %w %hw Hr
  ihave Hd := (Entails.of_eq (free_eq c _)) $$ Hd
  icases Hd with ⟨%w', Hd⟩
  iapply (wp_rd c (outB s) (par p.val)) $$ Hd
  iintro %v' %hv' Hd
  ihave Hd := (free_hold c _ _) $$ Hd
  iapply (wp_wrt c (outB s) (par p.val) (addPay v w)) $$ Hd
  iintro Hd
  iapply (wp_done c)
  isplitr [HO]
  · isplitl [Hs]
    · ihave H := (free_hold c _ _) $$ Hs
      iexact H
    isplitl [Hr]; · iexact Hr
    isplitl [Hd]
    · rw [addPay_eq, hv, hw]; iexact Hd
    iempintro
  iexact HO

/-- EVERY STEP: from what it needs to what it leaves. -/
theorem step (o : Op) (l l' : List Ow) (h : okO o l = some l') :
    iprop(Inv m K ∗ gAs m c (pre o) ∗ owE c l) ⊢ WP c (prog c o) (fun _ => iprop(gAs m c (post o) ∗ owE c l')) := by
  have hd : ∀ {sp sp' : Space} {e e' : EltTy} (d : Memref sig .tc sp S256x1024 e) (s : Memref sig .tc sp' S256x1024 e') (q : PosShare TreeShare)
      (v : Chunk F e) (w : Chunk F e'), iprop(hold c d fullShare v ∗ hold c s q w) ⊢ hold c d fullShare v := fun d s q v w => by
    iintro ⟨H, -⟩; iexact H
  cases o with
  | sig s => exact st_sig m K c s h
  | bar => exact st_bar m K c h
  | ldC i =>
    obtain rfl : l = l' := Option.some.inj h
    exact st_cp m K c (.cv i) rfl (.xC i) (.cF (par i.val)) rfl rfl rfl (hd _ _ _ _ _) l
  | wtC i =>
    refine st_wt m K c (.cv i) (k' := amt (.cv i)) ?_ rfl h
    intro Kt
    rw [← show _ = amt (.cv i) from rfl]
    exact wpE_waitDma2_eq 𝒱₀ (c : Thread nD τ) none Set.univ Kt
  | cast i =>
    obtain rfl : l = l' := Option.some.inj h
    exact st_cast m K c i l
  | snd s q => exact st_snd m K c s q h
  | wr s q =>
    refine st_wt m K c (.rc s q) (k' := amt (.rc s q)) ?_ rfl h
    intro Kt
    rw [← show _ = amt (.rc s q) from (credR s q)]
    exact wpE_waitDma2_eq 𝒱₀ (c : Thread nD τ) none Set.univ Kt
  | ws s q =>
    refine st_wt m K c (.sd s q) (k' := amt (.sd s q)) ?_ rfl h
    intro Kt
    rw [← show _ = amt (.sd s q) from (credR s q)]
    exact wpE_waitDma2_eq 𝒱₀ (c : Thread nD τ) none Set.univ Kt
  | ldL s p =>
    obtain rfl : l = l' := Option.some.inj h
    exact st_cp m K c (.lo s p) rfl (.xL s p) (.lF s (par p.val)) rfl rfl (credL s _) (hd _ _ _ _ _) l
  | wtL s p =>
    refine st_wt m K c (.lo s p) (k' := amt (.lo s p)) ?_ rfl h
    intro Kt
    rw [← show _ = amt (.lo s p) from (credL s _)]
    exact wpE_waitDma2_eq 𝒱₀ (c : Thread nD τ) none Set.univ Kt
  | add s p =>
    obtain rfl : l = l' := Option.some.inj h
    exact st_add m K c s p l
  | stO s p =>
    obtain rfl : l = l' := Option.some.inj h
    refine st_cp m K c (.ou s p) rfl (.oH s p) (.yF s p) rfl rfl (credO c s _) ?_ l
    show _ ⊢ iprop(mA m c (.yD s p) ∗ mA m c (.oF s (par p.val)))
    exact sep_mono_right (free_hold c _ _)
  | wtO s p =>
    refine st_wt m K c (.ou s p) (k' := amt (.ou s p)) ?_ rfl h
    intro Kt
    rw [← show _ = amt (.ou s p) from (credO c s _)]
    exact wpE_waitDma2_eq 𝒱₀ (c : Thread nD τ) none Set.univ Kt

end Steps

end Cert.KernelIdeal.RS
-- ==== Proof.Run.lean ====
/- The whole body: a checker that follows the script with a list of what a device holds, and why it may be believed. -/
module

public import proofs.«01_k».proof.Proof.Steps

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The checker -/

/-- Take one atom out of a list. -/
def take (a : Atom) : List Atom → Option (List Atom)
  | [] => none
  | b :: l => if b = a then some l else match take a l with
    | some l' => some (b :: l')
    | none => none

def takeAll : List Atom → List Atom → Option (List Atom)
  | [], A => some A
  | a :: p, A => match take a A with
    | some A' => takeAll p A'
    | none => none

/-- Follow the script: every step finds what it needs and leaves what it leaves. -/
def run : List Op → List Atom → List Ow → Option (List Atom × List Ow)
  | [], A, l => some (A, l)
  | o :: os, A, l => match takeAll (pre o) A with
    | some A' => match okO o l with
      | some l' => run os (post o ++ A') l'
      | none => none
    | none => none

theorem take_perm {a : Atom} : ∀ {l l' : List Atom}, take a l = some l' → l.Perm (a :: l')
  | [], _, h => absurd h (by simp [take])
  | b :: l, l', h => by
    unfold take at h
    split at h
    · next hb => rw [hb, Option.some.inj h]
    · split at h
      · next l'' hl =>
        rw [← Option.some.inj h]
        exact ((take_perm hl).cons b).trans (List.Perm.swap a b l'')
      · exact absurd h (by simp)

theorem takeAll_perm : ∀ {p A A' : List Atom}, takeAll p A = some A' → A.Perm (p ++ A')
  | [], A, A', h => by rw [Option.some.inj h]; exact .refl _
  | a :: p, A, A', h => by
    unfold takeAll at h
    split at h
    · next l hl => exact (take_perm hl).trans ((takeAll_perm h).cons a)
    · exact absurd h (by simp)

theorem gAs_perm (c : Dev nD) {l l' : List Atom} (h : l.Perm l') : gAs m c l ⊢ gAs m c l' := by
  induction h with
  | nil => exact .rfl
  | cons a _ ih => rw [gAs_cons, gAs_cons]; exact sep_mono_right ih
  | swap a b l =>
    rw [gAs_cons, gAs_cons, gAs_cons, gAs_cons]
    iintro ⟨H1, H2, H3⟩
    isplitl [H2]; · iexact H2
    isplitl [H1] <;> iassumption
  | trans _ _ h1 h2 => exact BIBase.Entails.trans h1 h2

theorem run_sound (K : Dev nD × SemLoc sig → ℕ) (c : Dev nD) : ∀ (os : List Op) (A : List Atom) (l : List Ow) (r : List Atom × List Ow),
    run os A l = some r →
    iprop(Inv m K ∗ gAs m c A ∗ owE c l) ⊢ WP c (Pipeline.chain (os.map (prog c))) (fun _ => iprop(gAs m c r.1 ∗ owE c r.2))
  | [], A, l, r, h => by
    obtain rfl : (A, l) = r := Option.some.inj h
    refine BIBase.Entails.trans ?_ (wp_done c)
    iintro ⟨-, H⟩
    iexact H
  | o :: os, A, l, r, h => by
    unfold run at h
    split at h
    · next A' hA =>
      split at h
      · next l' hl =>
        have ih := run_sound K c os _ _ _ h
        rw [List.map_cons, Pipeline.chain_cons]
        unfold WP
        rw [wp_bind]
        refine BIBase.Entails.trans ?_ (wp_mono _ _ _ (fun _ => ih))
        have hs := step m K c o l l' hl
        have hp := gAs_perm m c (takeAll_perm hA)
        rw [gAs_append] at hp
        have hf : iprop((Inv m K ∗ gAs m c A') ∗ WP c (prog c o) (fun _ => iprop(gAs m c (post o) ∗ owE c l')))
            ⊢ WP c (prog c o) (fun _ => iprop((Inv m K ∗ gAs m c A') ∗ (gAs m c (post o) ∗ owE c l'))) := wp_frame_l _ _ _
        have hm : WP c (prog c o) (fun _ => iprop((Inv m K ∗ gAs m c A') ∗ (gAs m c (post o) ∗ owE c l')))
            ⊢ WP c (prog c o) (fun _ => iprop(Inv m K ∗ gAs m c (post o ++ A') ∗ owE c l')) := wp_mono _ _ _ fun _ => by
          rw [gAs_append]
          iintro ⟨⟨H1, H2⟩, H3, H4⟩
          isplitl [H1]; · iexact H1
          isplitr [H4]
          · isplitl [H3] <;> iassumption
          · iexact H4
        iintro ⟨#HI, HA, HO⟩
        iapply hm
        iapply hf
        ihave H := hp $$ HA
        icases H with ⟨Hp, Hr⟩
        isplitl [Hr]
        · isplitr
          · iexact HI
          · iexact Hr
        iapply hs
        isplitr; · iexact HI
        isplitl [Hp] <;> iassumption
      · exact absurd h (by simp)
    · exact absurd h (by simp)

/-! ## From the start to the end -/

/-- Every chunk number of every stream. -/
def allq (f : (s : Str) → Fin (len s) → Atom) : List Atom :=
  (List.finRange 12).map (f .x) ++ ((List.finRange 8).map (f .y) ++ (List.finRange 12).map (f .z))

/-- The pieces of memory at the start: of `x`, of the buffers, of the result. -/
def xA : List MA := (List.finRange 12).map .xC ++ ((List.finRange 12).map (.xL .x) ++ ((List.finRange 8).map (.xL .y) ++ (List.finRange 12).map (.xL .z)))
def rF (s : Str) : List MA := (List.finRange (len s)).map (.own s)
def rD (s : Str) : List MA := (List.finRange (len s)).flatMap fun q => [.rp s q 0, .rp s q 1, .rp s q 2]
def bufF : List MA :=
  (List.finRange 2).map .cF ++ ((List.finRange 4).map .bF ++ ((List.finRange 2).map (.lF .x) ++ ((List.finRange 2).map (.lF .y)
    ++ ((List.finRange 2).map (.lF .z) ++ ((List.finRange 2).map (.oF .x) ++ ((List.finRange 2).map (.oF .y) ++ (List.finRange 2).map (.oF .z)))))))
def yA (f : (s : Str) → Fin (len s) → MA) : List MA := (List.finRange 12).map (f .x) ++ ((List.finRange 8).map (f .y) ++ (List.finRange 12).map (f .z))

/-- The rights to pay. -/
def evs : List Ev := (List.finRange 12).map .cv ++ ([Str.x, .y, .z].flatMap fun s => (List.finRange (len s)).flatMap fun q => [.sd s q, .lo s q, .ou s q])
def evR : List Ev := [Str.x, .y, .z].flatMap fun s => (List.finRange (len s)).map (.rc s)

def memI : List MA := xA ++ (bufF ++ (rF .x ++ (rF .y ++ (rF .z ++ yA .yF))))
def memE : List MA := bufF ++ (rD .x ++ (rD .y ++ (rD .z ++ yA .yD)))
def tkI : List Atom := evs.map .tk ++ (evR.map .tk ++ [.tkB .x, .tkB .y, .tkB .z])
def crI : List Atom := .crB :: evR.map .cr
def posI : List Atom := .posB 0 :: (List.finRange 70).map fun k => .pos k 0
def posE : List Atom := .posB 1 :: (List.finRange 70).map fun k => .pos k (rEnd k.val)

def atI : List Atom := memI.map .mem ++ (posI ++ (tkI ++ crI))
def atE : List Atom := memE.map .mem ++ posE

def goes : Bool := match run script atI owL with
  | some (A, []) => match takeAll atE A with
    | some [] => true
    | _ => false
  | _ => false

set_option maxHeartbeats 0 in
theorem goes_eq : goes = true := by decide +kernel

end Cert.KernelIdeal.RS

end
-- ==== Proof.Mem.lean ====
/- The memory at the start as the pieces the body works with, and the pieces at the end as whole buffers again. -/
module

public import proofs.«01_k».proof.Proof.Run
public import Idealize.ShloMosaic.Lib.ViewIndex
public import Idealize.ShloMosaic.Lib.Ring

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sharesN shares3)
open Cert.KernelIdeal.Gen

variable {F : FTy → Type} [FloatOps F]

local notation "𝕄" => MT nD τ sig Unit (Elt F) ℕ UU ℕ

variable (m : (ℓ : Loc nD τ sig) → Buf (Elt F) ℓ)

/-! ## A chunk at given contents of its buffer -/

section Chunks
variable (c : Dev nD) {sp : Space} {e : EltTy} (r : Memref sig .tc sp S256x1024 e) (q : PosShare TreeShare)

theorem hold_intro (f : r.view.ty.Contents (Elt F)) (w : Chunk F e) (h : r.view.read (Elt F) f = w) :
    (r.view.loc (c : Thread nD τ) ↦[r.view.set]{q} f : sProp 𝕄) ⊢ hold c r q w := by
  subst h; exact owns_intro (c : Thread nD τ) r q f

/-- Contents that read the same through a view agree on its elements. -/
theorem agree_of_read {f g : r.view.ty.Contents (Elt F)} (h : r.view.read (Elt F) f = r.view.read (Elt F) g) : ∀ i ∈ r.view.set, f i = g i := by
  intro i hi
  obtain ⟨x, -, rfl⟩ := Finset.mem_map.mp hi
  exact View.eq_of_read_eq (congrFun h x)

/-- A chunk held is its elements at any contents that read as the chunk. -/
theorem hold_at (f : r.view.ty.Contents (Elt F)) (w : Chunk F e) (h : r.view.read (Elt F) f = w) :
    hold c r q w ⊢ (r.view.loc (c : Thread nD τ) ↦[r.view.set]{q} f : sProp 𝕄) := by
  unfold hold owns
  iintro ⟨%g, %hg, H⟩
  have e1 : (r.view.loc (c : Thread nD τ) ↦[r.view.set]{q} g : sProp 𝕄) = r.view.loc (c : Thread nD τ) ↦[r.view.set]{q} f :=
    pointsTo_congr (agree_of_read r (hg.trans h.symm))
  rw [← e1]; iexact H

theorem free_exists : free c r ⊢ (iprop(∃ f, r.view.loc (c : Thread nD τ) ↦[r.view.set]{fullShare} f) : sProp 𝕄) := by
  unfold free owns
  iintro ⟨%w, %f, -, H⟩
  iexists f; iexact H

theorem free_intro (f : r.view.ty.Contents (Elt F)) : (r.view.loc (c : Thread nD τ) ↦[r.view.set]{fullShare} f : sProp 𝕄) ⊢ free c r := by
  unfold free
  iintro H
  iexists (r.view.read (Elt F) f)
  iapply (owns_intro (c : Thread nD τ) r fullShare f); iexact H

/-- Three shares of a chunk are the chunk. -/
theorem thirds_hold (w : Chunk F e) :
    iprop(hold c r (shares3 fullShare 0) w ∗ hold c r (shares3 fullShare 1) w ∗ hold c r (shares3 fullShare 2) w) ⊢ hold c r fullShare w := by
  have f₀ : r.view.ty.Contents (Elt F) := fun _ => Classical.arbitrary _
  have hw : r.view.read (Elt F) (r.view.write (Elt F) f₀ w Finset.univ) = w := View.read_write_univ _ _
  iintro ⟨H0, H1, H2⟩
  ihave H0 := (hold_at c r _ _ w hw) $$ H0
  ihave H1 := (hold_at c r _ _ w hw) $$ H1
  ihave H2 := (hold_at c r _ _ w hw) $$ H2
  iapply (hold_intro c r fullShare _ w hw)
  iapply (Ring.pointsTo_thirds fullShare _).2
  isplitl [H0]; · iexact H0
  isplitl [H1] <;> iassumption

end Chunks

/-! ## Blocks of a buffer -/

section Blocks
variable {ℓ : Loc nD τ sig} {B : Type} [Fintype B] [DecidableEq B] (I : B → Finset (Idx ℓ))
    (hd : ∀ b b' : B, b ≠ b' → Disjoint (I b) (I b')) (hc : ∀ y, ∃ b, y ∈ I b)

include hd hc in
theorem blocks_split {q : PosShare TreeShare} (f : Buf (Elt F) ℓ) (P : B → sProp 𝕄) (h : ∀ b, (ℓ ↦[I b]{q} f : sProp 𝕄) ⊢ P b) :
    (ℓ ↦{q} f : sProp 𝕄) ⊢ bigSep Finset.univ P := by
  rw [Ring.pointsTo_blocks I hd (Finset.eq_univ_of_forall fun y => Finset.mem_biUnion.mpr ⟨_, Finset.mem_univ _, (hc y).choose_spec⟩) f]
  exact bigSep_mono fun b _ => h b

include hd hc in
theorem blocks_join {q : PosShare TreeShare} (f₀ : Buf (Elt F) ℓ) (P : B → sProp 𝕄)
    (h : ∀ b, P b ⊢ (iprop(∃ f : Buf (Elt F) ℓ, ℓ ↦[I b]{q} f) : sProp 𝕄)) :
    bigSep Finset.univ P ⊢ (iprop(∃ g : Buf (Elt F) ℓ, ℓ ↦{q} g) : sProp 𝕄) :=
  BIBase.Entails.trans (bigSep_mono fun b _ => h b) (Ring.pointsTo_blocks_join_exists I hd
    (Finset.eq_univ_of_forall fun y => Finset.mem_biUnion.mpr ⟨_, Finset.mem_univ _, (hc y).choose_spec⟩) f₀)

include hd hc in
theorem blocks_join_at {q : PosShare TreeShare} (f₀ : Buf (Elt F) ℓ) (fs : B → Buf (Elt F) ℓ) (P : B → sProp 𝕄)
    (h : ∀ b, P b ⊢ (ℓ ↦[I b]{q} fs b : sProp 𝕄)) :
    bigSep Finset.univ P ⊢ (iprop(∃ g : Buf (Elt F) ℓ, ⌜∀ b, ∀ i ∈ I b, g i = fs b i⌝ ∗ ℓ ↦{q} g) : sProp 𝕄) := by
  refine BIBase.Entails.trans (bigSep_mono fun b _ => h b) (BIBase.Entails.trans (pointsTo_biUnion_join Finset.univ I fs f₀
    (fun t _ t' _ h => hd t t' h)) ?_)
  rw [Finset.eq_univ_of_forall fun y => Finset.mem_biUnion.mpr ⟨_, Finset.mem_univ _, (hc y).choose_spec⟩]
  iintro ⟨%g, %hg, H⟩
  iexists g
  isplitr
  · ipureintro; exact fun b => hg b (Finset.mem_univ b)
  · iexact H

end Blocks

/-! ## A buffer of slots -/

section Slots
variable (c : Dev nD) {n : ℕ} {e : EltTy} (b : Memref sig .tc .vmem (Sn n) e) (hb : b.IsWhole)

/-- The elements of a slot. -/
def slotI (i : Fin n) : Finset b.view.ty.Idx := (slotR n i).set.map b.view.emb

theorem slot_set (i : Fin n) : (slot b i).view.set = slotI b i :=
  (View.set_reshape (b.access (slotR n i)) _).trans (View.set_slice _ _)

theorem slot_disjoint (i j : Fin n) (h : i ≠ j) : Disjoint (slotI b i) (slotI b j) := by
  refine (Finset.disjoint_map _).mpr (Finset.disjoint_left.mpr fun x hx hx' => h (Fin.ext ?_))
  have h1 := (Rect.mem_set_unit.mp hx) 0
  have h2 := (Rect.mem_set_unit.mp hx') 0
  have h1' : i.val ≤ (x 0).val ∧ (x 0).val < i.val + 1 := h1
  have h2' : j.val ≤ (x 0).val ∧ (x 0).val < j.val + 1 := h2
  omega

include hb in
theorem slot_cover (y : b.view.ty.Idx) : ∃ i, y ∈ slotI b i := by
  have hy : y ∈ b.view.set := by rw [hb.set_eq_univ]; exact Finset.mem_univ _
  obtain ⟨x, -, rfl⟩ := Finset.mem_map.mp hy
  refine ⟨x 0, ?_⟩
  refine Finset.mem_map_of_mem _ (Rect.mem_set_unit.mpr fun a => ?_)
  have ha := (x a).isLt
  fin_cases a
  · exact ⟨le_refl _, Nat.lt_succ_self _⟩
  · exact ⟨Nat.zero_le _, by simpa using ha⟩
  · exact ⟨Nat.zero_le _, by simpa using ha⟩

theorem slot_free (i : Fin n) (f : Buf (Elt F) (b.view.loc (c : Thread nD τ))) :
    (b.view.loc (c : Thread nD τ) ↦[slotI b i]{fullShare} f : sProp 𝕄) ⊢ free c (slot b i) := by
  have h := free_intro c (slot b i) f
  rw [slot_set] at h
  exact h

theorem slot_exists (i : Fin n) :
    free c (slot b i) ⊢ (iprop(∃ f, b.view.loc (c : Thread nD τ) ↦[slotI b i]{fullShare} f) : sProp 𝕄) := by
  have h := free_exists (F := F) c (slot b i)
  rw [slot_set] at h
  exact h

include hb in
theorem slots_split : (iprop(∃ f : Buf (Elt F) (b.view.loc (c : Thread nD τ)), (b.view.loc (c : Thread nD τ)) ↦{fullShare} f) : sProp 𝕄)
    ⊢ bigSepL (List.finRange n) (fun i => free c (slot b i)) := by
  have hs : ∀ f : Buf (Elt F) (b.view.loc (c : Thread nD τ)), ((b.view.loc (c : Thread nD τ)) ↦{fullShare} f : sProp 𝕄)
      ⊢ bigSep Finset.univ (fun i => free c (slot b i)) := fun f =>
    blocks_split (ℓ := b.view.loc (c : Thread nD τ)) (slotI b) (slot_disjoint b) (slot_cover b hb) f (fun i => free c (slot b i)) fun i => slot_free c b i f
  rw [bigSep_univ_eq_bigSepL (List.finRange n) (by ext i; simp) (List.nodup_finRange n)] at hs
  exact exists_elim hs

include hb in
theorem slots_join : bigSepL (List.finRange n) (fun i => free c (slot b i))
    ⊢ (iprop(∃ f : Buf (Elt F) (b.view.loc (c : Thread nD τ)), (b.view.loc (c : Thread nD τ)) ↦{fullShare} f) : sProp 𝕄) := by
  have f₀ : b.view.ty.Contents (Elt F) := fun _ => Classical.arbitrary _
  have hs : bigSep Finset.univ (fun i => free c (slot b i))
      ⊢ (iprop(∃ f : Buf (Elt F) (b.view.loc (c : Thread nD τ)), (b.view.loc (c : Thread nD τ)) ↦{fullShare} f) : sProp 𝕄) :=
    blocks_join (ℓ := b.view.loc (c : Thread nD τ)) (slotI b) (slot_disjoint b) (slot_cover b hb) f₀ (fun i => free c (slot b i)) fun i => slot_exists c b i
  rw [bigSep_univ_eq_bigSepL (List.finRange n) (by ext i; simp) (List.nodup_finRange n)] at hs
  exact hs

end Slots

/-- Received slots, each in three shares, are the buffer again. -/
theorem recv_join (c : Dev nD) (s : Str) : mAs m c (rD s) ⊢ bigSepL (List.finRange (len s)) (fun i => free c (slot (rcvB s) i)) := by
  unfold rD
  generalize List.finRange (len s) = l
  induction l with
  | nil => exact .rfl
  | cons q l ih =>
    rw [List.flatMap_cons, mAs_append, bigSepL_cons']
    refine BIClass.sep_mono ?_ ih
    show iprop(mA m c (.rp s q 0) ∗ mA m c (.rp s q 1) ∗ mA m c (.rp s q 2)) ⊢ _
    exact BIBase.Entails.trans (thirds_hold c _ _) (free_hold c _ _)

/-! ## The argument -/

theorem x_piece (c : Dev nD) (off : Fin 3 → ℕ) (h : ∀ a, off a + S1x256x1024.size a ≤ S1x8192x2048.size a) (q : PosShare TreeShare) :
    (((c : Thread nD τ).loc main_arg0) ↦{q} m ((c : Thread nD τ).loc main_arg0) : sProp 𝕄) ⊢ hold c (xAt off h) q (xv m c off h) := by
  iintro H
  ihave H' := (pointsTo_split_subset (Finset.subset_univ (xAt off h).view.set)).1 $$ H
  icases H' with ⟨H, -⟩
  iapply (hold_intro c (xAt off h) q (m ((c : Thread nD τ).loc main_arg0)) _ rfl)
  iexact H

theorem finRange_parts : List.finRange 45 = (List.finRange 12).map (fun i => (⟨i.val % 45, Nat.mod_lt _ (by decide)⟩ : Fin 45))
    ++ ((List.finRange 12).map (fun i => ⟨(12 + i.val) % 45, Nat.mod_lt _ (by decide)⟩)
      ++ ((List.finRange 8).map (fun i => ⟨(24 + i.val) % 45, Nat.mod_lt _ (by decide)⟩)
        ++ ((List.finRange 12).map (fun i => ⟨(32 + i.val) % 45, Nat.mod_lt _ (by decide)⟩) ++ [⟨44, by decide⟩]))) := by
  decide +kernel

/-- The argument in shares: one for each load, one kept. -/
theorem x_split (c : Dev nD) :
    (((c : Thread nD τ).loc main_arg0) ↦{fullShare} m ((c : Thread nD τ).loc main_arg0) : sProp 𝕄)
      ⊢ iprop(mAs m c xA ∗ ((c : Thread nD τ).loc main_arg0) ↦{xsh 44} m ((c : Thread nD τ).loc main_arg0)) := by
  refine BIBase.Entails.trans (Ring.pointsTo_nths _ 44 fullShare).1 ?_
  rw [finRange_parts]
  unfold xA
  simp only [bigSepL_append, bigSepL_map, mAs_append, bigSepL_singleton]
  iintro ⟨H1, H2, H3, H4, H5⟩
  isplitr [H5]
  · have e1 : ∀ (l : List (Fin 12)), bigSepL l (fun i => (((c : Thread nD τ).loc main_arg0) ↦{xsh i.val} m ((c : Thread nD τ).loc main_arg0) : sProp 𝕄))
        ⊢ mAs m c (l.map .xC) := fun l => by
      unfold mAs; rw [bigSepL_map]
      exact bigSepL_mono fun i _ => x_piece m c _ _ _
    have e2 : ∀ (s : Str) (l : List (Fin (len s))), bigSepL l (fun i => (((c : Thread nD τ).loc main_arg0) ↦{xsh (base s + i.val)} m ((c : Thread nD τ).loc main_arg0) : sProp 𝕄))
        ⊢ mAs m c (l.map (.xL s)) := fun s l => by
      unfold mAs; rw [bigSepL_map]
      exact bigSepL_mono fun i _ => x_piece m c _ _ _
    isplitl [H1]; · iapply (e1 _); iexact H1
    isplitl [H2]; · iapply (e2 .x _); iexact H2
    isplitl [H3]; · iapply (e2 .y _); iexact H3
    iapply (e2 .z _); iexact H4
  · iexact H5

/-! ## The result -/

/-- A position of a stream. -/
abbrev Pos : Type := (s : Str) × Fin (len s)

def poss : List Pos := (List.finRange 12).map (fun p => ⟨.x, p⟩) ++ ((List.finRange 8).map (fun p => ⟨.y, p⟩) ++ (List.finRange 12).map (fun p => ⟨.z, p⟩))

theorem poss_univ : (Finset.univ : Finset Pos) = poss.toFinset := by decide +kernel
theorem poss_nodup : poss.Nodup := by decide +kernel

/-- The chunk of the result written at a position. -/
abbrev oPos (c : Dev nD) (t : Pos) : Memref sig .tc .hbm S256x1024 .bf16 := oAt (offO c t.1 (ord t.1 t.2)) (offO_inb c t.1 (ord t.1 t.2))

/-- Its row block. -/
def rowB (c : Dev nD) (t : Pos) : ℕ := offO c t.1 (ord t.1 t.2) 0 / 256

theorem offO_row (c : Dev nD) (t : Pos) : offO c t.1 (ord t.1 t.2) 0 = 256 * rowB c t ∧ offO c t.1 (ord t.1 t.2) 1 = 0 := by
  obtain ⟨s, p⟩ := t
  revert c p; cases s <;> decide +kernel
theorem rowB_inj (c : Dev nD) : ∀ t t' : Pos, rowB c t = rowB c t' → t = t' := by
  revert c; decide +kernel
theorem rowB_cover (c : Dev nD) : ∀ k : Fin 32, ∃ t : Pos, rowB c t = k.val := by
  revert c; decide +kernel

/-- Its elements. -/
def outI (c : Dev nD) (t : Pos) : Finset S8192x1024.Idx :=
  (Rect.unit (s := S8192x1024) (offO c t.1 (ord t.1 t.2)) S256x1024.size (offO_inb c t.1 (ord t.1 t.2))).set

theorem oPos_set (c : Dev nD) (t : Pos) : (oPos c t).view.set = outI c t := View.set_slice_whole main_v1 _

theorem oPos_mem (c : Dev nD) (t : Pos) (y : S8192x1024.Idx) : y ∈ outI c t ↔ (y 0).val / 256 = rowB c t := by
  unfold outI
  rw [Rect.mem_set_unit]
  obtain ⟨hr, hc⟩ := offO_row c t
  constructor
  · intro h
    have h0 := h 0
    rw [hr] at h0
    have h0' : 256 * rowB c t ≤ (y 0).val ∧ (y 0).val < 256 * rowB c t + 256 := h0
    omega
  · intro h a
    have h1 := (y 1).isLt
    fin_cases a
    · show offO c t.1 (ord t.1 t.2) 0 ≤ (y 0).val ∧ (y 0).val < offO c t.1 (ord t.1 t.2) 0 + 256
      omega
    · show offO c t.1 (ord t.1 t.2) 1 ≤ (y 1).val ∧ (y 1).val < offO c t.1 (ord t.1 t.2) 1 + 1024
      have : (y 1).val < 1024 := h1
      omega

theorem oPos_disjoint (c : Dev nD) (t t' : Pos) (h : t ≠ t') : Disjoint (outI c t) (outI c t') :=
  Finset.disjoint_left.mpr fun y hy hy' => h (rowB_inj c t t' (((oPos_mem c t y).mp hy).symm.trans ((oPos_mem c t' y).mp hy')))

theorem oPos_cover (c : Dev nD) (y : S8192x1024.Idx) : ∃ t, y ∈ outI c t := by
  have hy : (y 0).val < 8192 := (y 0).isLt
  obtain ⟨t, ht⟩ := rowB_cover c ⟨(y 0).val / 256, by omega⟩
  exact ⟨t, (oPos_mem c t y).mpr ht.symm⟩

theorem yA_eq (c : Dev nD) (f : (s : Str) → Fin (len s) → MA) : mAs m c (yA f) = bigSep Finset.univ fun t : Pos => mA m c (f t.1 t.2) := by
  rw [bigSep_univ_eq_bigSepL poss poss_univ poss_nodup]
  unfold yA poss mAs
  simp only [bigSepL_append, bigSepL_map]
  rfl

theorem y_split (c : Dev nD) (f : Buf (Elt F) ((c : Thread nD τ).loc main_v1)) :
    (((c : Thread nD τ).loc main_v1) ↦{fullShare} f : sProp 𝕄) ⊢ mAs m c (yA .yF) := by
  rw [yA_eq]
  refine blocks_split (ℓ := (c : Thread nD τ).loc main_v1) (outI c) (oPos_disjoint c) (oPos_cover c) f _ fun t => ?_
  have h := free_intro c (oPos c t) f
  rw [oPos_set] at h
  exact h

/-- The result holds every position's sum. -/
def IsOut (c : Dev nD) (g : Buf (Elt F) ((c : Thread nD τ).loc main_v1)) : Prop :=
  ∀ t : Pos, (oPos c t).view.read (Elt F) g = ov m c t.1 t.2

theorem y_join (c : Dev nD) :
    mAs m c (yA .yD) ⊢ (iprop(∃ g, ⌜IsOut m c g⌝ ∗ ((c : Thread nD τ).loc main_v1) ↦{fullShare} g) : sProp 𝕄) := by
  have f₀ : Buf (Elt F) ((c : Thread nD τ).loc main_v1) := fun _ => Classical.arbitrary _
  rw [yA_eq]
  have hw : ∀ t : Pos, (oPos c t).view.read (Elt F) ((oPos c t).view.write (Elt F) f₀ (ov m c t.1 t.2) Finset.univ) = ov m c t.1 t.2 :=
    fun t => View.read_write_univ _ _
  have hd : ∀ t : Pos, mA m c (.yD t.1 t.2) ⊢ (((c : Thread nD τ).loc main_v1) ↦[outI c t]{fullShare}
      (oPos c t).view.write (Elt F) f₀ (ov m c t.1 t.2) Finset.univ : sProp 𝕄) := fun t => by
    have h := hold_at c (oPos c t) fullShare _ _ (hw t)
    rw [oPos_set] at h
    exact h
  have hj := blocks_join_at (ℓ := (c : Thread nD τ).loc main_v1) (outI c) (oPos_disjoint c) (oPos_cover c) f₀ _ _ hd
  iintro H
  ihave H := hj $$ H
  icases H with ⟨%g, %hg, H⟩
  iexists g
  isplitr
  · ipureintro
    exact fun t => (View.read_congr (fun i hi => hg t i (oPos_set c t ▸ hi))).trans (hw t)
  · iexact H

/-! ## The buffers -/

/-- The eleven buffers, each at some contents. -/
def bufs (c : Dev nD) : sProp 𝕄 := Pipeline.scopedRest (Ix := Unit) (Name := ℕ) (U := UU) (Lvl := ℕ) (Val := Elt F) (cfg0.spec) c

theorem mAs_map {α : Type} (c : Dev nD) (l : List α) (f : α → MA) : mAs m c (l.map f) = bigSepL l fun i => mA m c (f i) := by
  unfold mAs; rw [bigSepL_map]

theorem slots_rF (c : Dev nD) (s : Str) : mAs m c (rF s) = bigSepL (List.finRange (len s)) (fun i => free c (slot (rcvB s) i)) := by
  unfold mAs rF; rw [bigSepL_map]; rfl

theorem bufs_split (c : Dev nD) : bufs c ⊢ iprop(mAs m c bufF ∗ mAs m c (rF .x) ∗ mAs m c (rF .y) ∗ mAs m c (rF .z)) := by
  unfold bufs
  rw [scopedRest0_eq]
  simp only [slots_rF]
  unfold bufF
  simp only [mAs_append, mAs_map]
  iintro ⟨H0, H1, H2, H3, H4, H5, H6, H7, H8, H9, H10⟩
  isplitr [H0 H1 H2]
  · isplitl [H3]; · iapply (slots_split c cvtB (Memref.isWhole_whole _)); iexact H3
    isplitl [H4]; · iapply (slots_split c sndB (Memref.isWhole_whole _)); iexact H4
    isplitl [H5]; · iapply (slots_split c (locB .x) (Memref.isWhole_whole _)); iexact H5
    isplitl [H6]; · iapply (slots_split c (locB .y) (Memref.isWhole_whole _)); iexact H6
    isplitl [H7]; · iapply (slots_split c (locB .z) (Memref.isWhole_whole _)); iexact H7
    isplitl [H8]; · iapply (slots_split c (outB .x) (outB_whole .x)); iexact H8
    isplitl [H9]; · iapply (slots_split c (outB .y) (outB_whole .y)); iexact H9
    iapply (slots_split c (outB .z) (outB_whole .z)); iexact H10
  · isplitl [H0]; · iapply (slots_split c (rcvB .x) (rcvB_whole .x)); iexact H0
    isplitl [H1]; · iapply (slots_split c (rcvB .y) (rcvB_whole .y)); iexact H1
    iapply (slots_split c (rcvB .z) (rcvB_whole .z)); iexact H2

theorem bufs_join (c : Dev nD) : iprop(mAs m c bufF ∗ mAs m c (rD .x) ∗ mAs m c (rD .y) ∗ mAs m c (rD .z)) ⊢ bufs c := by
  unfold bufs
  rw [scopedRest0_eq]
  unfold bufF
  simp only [mAs_append, mAs_map]
  iintro ⟨⟨H3, H4, H5, H6, H7, H8, H9, H10⟩, H0, H1, H2⟩
  isplitl [H0]; · iapply (slots_join c (rcvB .x) (rcvB_whole .x)); iapply (recv_join m c .x); iexact H0
  isplitl [H1]; · iapply (slots_join c (rcvB .y) (rcvB_whole .y)); iapply (recv_join m c .y); iexact H1
  isplitl [H2]; · iapply (slots_join c (rcvB .z) (rcvB_whole .z)); iapply (recv_join m c .z); iexact H2
  isplitl [H3]; · iapply (slots_join c cvtB (Memref.isWhole_whole _)); iexact H3
  isplitl [H4]; · iapply (slots_join c sndB (Memref.isWhole_whole _)); iexact H4
  isplitl [H5]; · iapply (slots_join c (locB .x) (Memref.isWhole_whole _)); iexact H5
  isplitl [H6]; · iapply (slots_join c (locB .y) (Memref.isWhole_whole _)); iexact H6
  isplitl [H7]; · iapply (slots_join c (locB .z) (Memref.isWhole_whole _)); iexact H7
  isplitl [H8]; · iapply (slots_join c (outB .x) (outB_whole .x)); iexact H8
  isplitl [H9]; · iapply (slots_join c (outB .y) (outB_whole .y)); iexact H9
  iapply (slots_join c (outB .z) (outB_whole .z)); iexact H10

end Cert.KernelIdeal.RS

end
-- ==== Proof.Launch.lean ====
/- The launch: every semaphore put under the protocol, the rights and the promises dealt to the devices, and the run of the whole mesh. -/
module

public import proofs.«01_k».proof.Proof.Mem

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sharesN shares3)
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The semaphores -/

/-- The kernel's own semaphores. -/
abbrev osem : Fin 70 → SemLoc sig := fun k => .dma k

/-- Every semaphore of a device. -/
def semL : List (SemLoc sig) := .reg barS :: (List.finRange 70).map osem

theorem semL_univ : (Finset.univ : Finset (SemLoc sig)) = semL.toFinset := by decide +kernel
theorem semL_nodup : semL.Nodup := by decide +kernel

theorem bigSep_sems (Φ : SemLoc sig → sProp 𝕄) :
    bigSep Finset.univ Φ = iprop(Φ (.reg barS) ∗ bigSepL (List.finRange 70) fun k => Φ (osem k)) := by
  rw [bigSep_univ_eq_bigSepL semL semL_univ semL_nodup]
  unfold semL
  rw [bigSepL_cons', bigSepL_map]

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSepL (List.finRange 70) fun k => semVal ((c : Thread nD τ), osem k) 0 :=
  Pipeline.ownSems0_eq_of_list c osem (List.finRange 70) (by ext i; simp) (List.nodup_finRange 70)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_eq, unscopedSems0_eq, bigSep_sems]
  iintro ⟨HS, HB⟩
  isplitl [HB]; · iexact HB
  iexact HS

/-! ## The rights to pay -/

inductive Tk
  | ev (e : Ev)
  | bar (s : Str)
  deriving DecidableEq

def tks : List Tk := evs.map .ev ++ (evR.map .ev ++ [.bar .x, .bar .y, .bar .z])

theorem tks_all (t : Tk) : t ∈ tks := by
  cases t with
  | bar s => cases s <;> decide +kernel
  | ev e => cases e with
    | cv i => revert i; decide +kernel
    | sd s q => cases s <;> (revert q; decide +kernel)
    | rc s q => cases s <;> (revert q; decide +kernel)
    | lo s q => cases s <;> (revert q; decide +kernel)
    | ou s q => cases s <;> (revert q; decide +kernel)

theorem tks_nodup : tks.Nodup := by decide +kernel

instance : Fintype Tk := ⟨tks.toFinset, fun t => List.mem_toFinset.mpr (tks_all t)⟩

/-- A right, of the device whose semaphore it pays to. -/
def tokOf : Dev nD × Tk → GSem nD τ sig × ℕ × Str
  | (c, .ev e) => (cell c e, rnd e, .x)
  | (c, .bar s) => (barCell c, 0, s)

theorem tokOf_inj : Function.Injective tokOf := by
  rintro ⟨c, t⟩ ⟨c', t'⟩ h
  have h1 : c = c' := by
    have := congrArg (fun x : GSem nD τ sig × ℕ × Str => x.1.1.1) h
    cases t <;> cases t' <;> exact this
  subst h1
  cases t with
  | bar s => cases t' with
    | bar s' =>
      have : s = s' := congrArg (fun x : GSem nD τ sig × ℕ × Str => x.2.2) h
      rw [this]
    | ev e' =>
      have : SemLoc.reg barS = SemLoc.dma (semOf e') := congrArg (fun x : GSem nD τ sig × ℕ × Str => x.1.2) h
      cases this
  | ev e => cases t' with
    | bar s' =>
      have : SemLoc.dma (semOf e) = SemLoc.reg barS := congrArg (fun x : GSem nD τ sig × ℕ × Str => x.1.2) h
      cases this
    | ev e' =>
      have h2 : SemLoc.dma (semOf e) = SemLoc.dma (semOf e') := congrArg (fun x : GSem nD τ sig × ℕ × Str => x.1.2) h
      have h3 : rnd e = rnd e' := congrArg (fun x : GSem nD τ sig × ℕ × Str => x.2.1) h
      have h4 : semOf e = semOf e' := SemLoc.dma.inj h2
      have h5 := dec_ev e
      rw [h3, h4, dec_ev e'] at h5
      rw [Option.some.inj h5]

theorem kcell_inj : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  rw [h1, h2]

def allCells : Finset (GSem nD τ sig) := Finset.univ.map ⟨kcell, kcell_inj⟩
def allToks : Finset (GSem nD τ sig × ℕ × Str) := Finset.univ.map ⟨tokOf, tokOf_inj⟩

def u₀ : UU :=
  (initOf (Pipeline.cells cfgs cellOf_inj) (Pipeline.launchToks cfgs cellOf_inj), initOf allCells allToks)

def tok (c : Dev nD) (t : Tk) : sProp 𝕄 := dutyTok ER (tokOf (c, t)).1 (tokOf (c, t)).2.1 (tokOf (c, t)).2.2

/-- The rights to pay a device's own semaphores. -/
def toks (c : Dev nD) : sProp 𝕄 := bigSepL tks (tok c)

/-- Who holds a right: the device that copies, the neighbour that sends or signals. -/
def tgtE : Tk → Dev nD ≃ Dev nD
  | .ev (.rc s _) => ⟨peer s, peer s, peer_peer s, peer_peer s⟩
  | .bar s => ⟨peer s, peer s, peer_peer s, peer_peer s⟩
  | _ => Equiv.refl _

def payToks (c : Dev nD) : sProp 𝕄 := bigSepL tks fun t => tok (tgtE t c) t

theorem bigSepL_both {I : Type} (l : List I) (Φ Ψ : I → sProp 𝕄) :
    iprop(bigSepL l Φ ∗ bigSepL l Ψ) ⊢ bigSepL l fun i => iprop(Φ i ∗ Ψ i) := by
  induction l with
  | nil => iintro ⟨H, -⟩; iexact H
  | cons a l ih =>
    simp only [bigSepL_cons']
    iintro ⟨⟨H1, H2⟩, H3, H4⟩
    isplitl [H1 H3]
    · isplitl [H1] <;> iassumption
    · iapply ih
      isplitl [H2] <;> iassumption

theorem bigSep_bigSepL {I : Type} (l : List I) (Φ : Dev nD → I → sProp 𝕄) :
    (bigSep Finset.univ fun c => bigSepL l (Φ c)) = bigSepL l fun t => bigSep Finset.univ fun c => Φ c t := by
  induction l with
  | nil =>
    show (bigSep Finset.univ fun _ : Dev nD => (iprop(emp) : sProp 𝕄)) = iprop(emp)
    exact BI.bigSep_emp_const _
  | cons a l ih =>
    simp only [bigSepL_cons']
    rw [bigSep_sep', ih]

theorem toks_around : (bigSep Finset.univ fun c : Dev nD => (toks c : sProp 𝕄)) = bigSep Finset.univ fun c : Dev nD => payToks c := by
  unfold toks payToks
  rw [bigSep_bigSepL, bigSep_bigSepL]
  congr 1
  funext t
  exact bigSep_univ_equiv (tgtE t) (fun c => tok c t)

theorem payToks_eq (c : Dev nD) : (payToks c : sProp 𝕄) = gAs m c tkI := by
  unfold payToks tks tkI gAs
  simp only [bigSepL_append, bigSepL_map, bigSepL_cons', bigSepL_singleton]
  have h : ∀ e : Ev, (tok (tgtE (.ev e) c) (.ev e) : sProp 𝕄) = gA m c (.tk e) := fun e => by cases e <;> rfl
  have h' : ∀ s : Str, (tok (tgtE (.bar s) c) (.bar s) : sProp 𝕄) = gA m c (.tkB s) := fun s => rfl
  simp only [h, h']
  rfl

/-! ## The devices' shares of the launch -/

/-- Every semaphore under the protocol, at names `K`. -/
def Cells (K : Dev nD × SemLoc sig → ℕ) : sProp 𝕄 :=
  bigSep Finset.univ fun ck : Dev nD × SemLoc sig => iprop(cellInv ER (sched m) (K ck) (kcell ck) ∗ reached ER (kcell ck) 0)

instance Cells_persistent (K : Dev nD × SemLoc sig → ℕ) : BI.Persistent (Cells m K) := by unfold Cells; infer_instance

def G (c : Dev nD) : sProp 𝕄 :=
  iprop((bigSep Finset.univ fun sm : SemLoc sig => roundState ER (sched m) (kcell (c, sm)) 0)
    ∗ (bigSep Finset.univ fun sm : SemLoc sig => iprop(atPos ER (kcell (c, sm)) 0 ∅ 0 ∗ reached ER (kcell (c, sm)) 0)) ∗ toks c)

def G' (c : Dev nD) : sProp 𝕄 := iprop(∃ K, Cells m K ∗ gAs m c (posI ++ tkI))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => bigSep_univ_eq_bigSepL tks rfl tks_nodup _
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (sched m) (kcell (c, sm)) 0)
      ⊢ (|={Set.univ}=> bigSep Finset.univ fun sm : SemLoc sig => iprop(∃ κ : ℕ, cellInv ER (sched m) κ (kcell (c, sm))) : sProp 𝕄) from by
        rw [← bigSep_sep']
        exact (bigSep_mono fun sm _ => (Rounds.body_intro ER (sched m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-- A device's places at its own semaphores. -/
def places (c : Dev nD) : sProp 𝕄 := bigSep Finset.univ fun sm : SemLoc sig => atPos ER (kcell (c, sm)) 0 ∅ 0

theorem ghost_intro (K : Dev nD × SemLoc sig → ℕ) (c : Dev nD) : iprop(Cells m K ∗ (places c ∗ payToks c)) ⊢ G' m c := by
  have hp : iprop(Cells m K ∗ places c) ⊢ gAs m c posI := by
    have h1 : Cells m K ⊢ bigSepL (List.finRange 70) fun k => (reached ER (kcell (c, osem k)) 0 : sProp 𝕄) := by
      refine BIBase.Entails.trans (Q := bigSep Finset.univ fun ck : Dev nD × SemLoc sig => (reached ER (kcell ck) 0 : sProp 𝕄)) ?_ ?_
      · unfold Cells
        have h0 : ∀ ck : Dev nD × SemLoc sig, iprop(cellInv ER (sched m) (K ck) (kcell ck) ∗ reached ER (kcell ck) 0) ⊢ (reached ER (kcell ck) 0 : sProp 𝕄) :=
          fun ck => by iintro ⟨-, H⟩; iexact H
        exact bigSep_mono fun ck _ => h0 ck
      · rw [bigSep_univ_prod]
        refine BIBase.Entails.trans (bigSep_elim (Finset.mem_univ c)) ?_
        rw [bigSep_sems]
        iintro ⟨-, H⟩
        iexact H
    unfold places posI
    rw [bigSep_sems, gAs_cons]
    unfold gAs
    rw [bigSepL_map]
    iintro ⟨#HI, HB, HP⟩
    isplitl [HB]; · iapply (show (atPos ER (kcell (c, .reg barS)) 0 ∅ 0 : sProp 𝕄) ⊢ gA m c (.posB 0) from .rfl); iexact HB
    ihave #HR := h1 $$ HI
    have h2 : iprop((bigSepL (List.finRange 70) fun k => atPos ER (kcell (c, osem k)) 0 ∅ 0) ∗ (bigSepL (List.finRange 70) fun k => reached ER (kcell (c, osem k)) 0))
        ⊢ bigSepL (List.finRange 70) fun k => gA m c (.pos k 0) := bigSepL_both _ _ _
    iapply h2
    isplitl [HP]; · iexact HP
    iexact HR
  unfold G'
  rw [payToks_eq m c]
  iintro ⟨#HI, HP, HT⟩
  iexists K
  isplitr; · iexact HI
  rw [gAs_append]
  isplitl [HP]
  · iapply hp
    isplitr; · iexact HI
    iexact HP
  · iexact HT

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (sched m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄)), toks_around]
  iintro ⟨HI, ⟨Hat, #HR⟩, Htok⟩
  ihave HK := (BI.bigSep_exists_pi Finset.univ (fun (ck : Dev nD × SemLoc sig) (κ : ℕ) => (cellInv ER (sched m) κ (kcell ck) : sProp 𝕄))) $$ HI
  icases HK with ⟨%K, #HI⟩
  iapply (bigSep_with_persistent (R := Cells m K) fun c _ => ghost_intro m K c)
  isplitr
  · unfold Cells
    rw [bigSep_sep']
    isplitl; · iexact HI
    iexact HR
  · rw [bigSep_sep']
    isplitl [Hat]; · iexact Hat
    iexact Htok

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The promises -/

abbrev O₀ (c : Dev nD) : CellTallies nD τ sig Unit := owed c owL

theorem sum_owed (g : GSem nD τ sig) : ∀ l : List Ow, ∑ d : Dev nD, owed d l g () = (l.map fun o => ∑ d : Dev nD, tal d o g ()).sum
  | [] => Finset.sum_const_zero
  | a :: l => by
    rw [List.map_cons, List.sum_cons, ← sum_owed g l, ← Finset.sum_add_distrib]
    exact Finset.sum_congr rfl fun d _ => Nat.add_comm _ _

/-- One device lies behind a device along an axis. -/
theorem sum_peer (s : Str) (c : Dev nD) (n : ℕ) : (∑ d : Dev nD, if c = peer s d then n else 0) = n := by
  rw [Finset.sum_congr rfl (g := fun d => if d = peer s c then n else 0) fun d _ => ?_]
  · rw [Finset.sum_ite_eq' Finset.univ (peer s c) fun _ => n, if_pos (Finset.mem_univ _)]
  · by_cases h : c = peer s d
    · subst h; rw [peer_peer]; simp
    · rw [if_neg h, if_neg fun h' => h (by rw [h', peer_peer])]

theorem tal_bar (c : Dev nD) (o : Ow) : ∑ d : Dev nD, tal d o (barCell c) () = match o with | .bar _ => 1 | .rc _ _ => 0 := by
  cases o with
  | bar s =>
    refine (Finset.sum_congr rfl fun d _ => ?_).trans (sum_peer s c 1)
    show tallyAt (barCell (peer s d)) () 1 (barCell c) () = _
    rw [tallyAt_apply]
    by_cases h : c = peer s d
    · rw [if_pos h, if_pos ⟨by rw [h], rfl⟩]
    · rw [if_neg h, if_neg fun h' => h (congrArg (fun g : GSem nD τ sig => g.1.1) h'.1)]
  | rc s q =>
    refine Finset.sum_eq_zero fun d _ => ?_
    show tallyAt (cell (peer s d) (.rc s q)) () Nb (barCell c) () = _
    rw [tallyAt_apply, if_neg]
    intro h
    have h1 : SemLoc.reg barS = SemLoc.dma (semOf (.rc s q)) := congrArg (fun g : GSem nD τ sig => g.2) h.1
    cases h1

theorem tal_rc (c : Dev nD) (s : Str) (q : Fin (len s)) (o : Ow) :
    ∑ d : Dev nD, tal d o (cell c (.rc s q)) () = if o = .rc s q then Nb else 0 := by
  cases o with
  | bar s' =>
    rw [if_neg (by intro h; cases h)]
    refine Finset.sum_eq_zero fun d _ => ?_
    show tallyAt (barCell (peer s' d)) () 1 (cell c (.rc s q)) () = _
    rw [tallyAt_apply, if_neg]
    intro h
    have h1 : SemLoc.dma (semOf (.rc s q)) = SemLoc.reg barS := congrArg (fun g : GSem nD τ sig => g.2) h.1
    cases h1
  | rc s' q' =>
    by_cases ho : Ow.rc s' q' = Ow.rc s q
    · rw [if_pos ho]
      obtain ⟨rfl, h2⟩ := Ow.rc.inj ho
      obtain rfl := eq_of_heq h2
      refine (Finset.sum_congr rfl fun d _ => ?_).trans (sum_peer s' c Nb)
      show tallyAt (cell (peer s' d) (.rc s' q')) () Nb (cell c (.rc s' q')) () = _
      rw [tallyAt_apply]
      by_cases h : c = peer s' d
      · rw [if_pos h, if_pos ⟨by rw [h], rfl⟩]
      · rw [if_neg h, if_neg fun h' => h (congrArg (fun g : GSem nD τ sig => g.1.1) h'.1)]
    · rw [if_neg ho]
      refine Finset.sum_eq_zero fun d _ => ?_
      show tallyAt (cell (peer s' d) (.rc s' q')) () Nb (cell c (.rc s q)) () = _
      rw [tallyAt_apply, if_neg]
      intro h
      have h1 : SemLoc.dma (semOf (.rc s q)) = SemLoc.dma (semOf (.rc s' q')) := congrArg (fun g : GSem nD τ sig => g.2) h.1
      have h2 : semOf (.rc s q) = semOf (.rc s' q') := SemLoc.dma.inj h1
      have h3 := dec_ev (.rc s q)
      have h4 := dec_ev (.rc s' q')
      rw [h2] at h3
      have h5 : Ev.rc s q = Ev.rc s' q' := Option.some.inj (h3.symm.trans h4)
      cases h5
      exact ho rfl

theorem sum_count (a : Ow) (n : ℕ) : ∀ l : List Ow, (l.map fun o => if o = a then n else 0).sum = l.count a * n
  | [] => by simp
  | b :: l => by
    rw [List.map_cons, List.sum_cons, sum_count a n l, List.count_cons]
    by_cases h : b = a
    · subst h; simp [Nat.add_mul, Nat.add_comm]
    · simp [h]

theorem count_rc (s : Str) (q : Fin (len s)) : owL.count (.rc s q) = 1 := by
  revert q; cases s <;> decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, sum_owed, funext (tal_bar c)]
  decide +kernel

theorem launch_rc (c : Dev nD) (s : Str) (q : Fin (len s)) :
    tallyOn (cell c (.rc s q)) (launchCredit (Pipeline.owing O₀) 0 (cell c (.rc s q))) = (tallyAt (cell c (.rc s q)) () Nb : CellTallies nD τ sig Unit) := by
  unfold tallyAt; refine congrArg _ (Finsupp.ext fun u => ?_); cases u
  rw [Pipeline.launchCredit_owing, Finsupp.single_eq_same, sum_owed, funext (tal_rc c s q), sum_count, count_rc, Nat.one_mul]

def crS : List (SemLoc sig) := .reg barS :: evR.map fun e => .dma (semOf e)
theorem crS_nodup : crS.Nodup := by decide +kernel
theorem evR_rc (e : Ev) (h : e ∈ evR) : ∃ s q, e = .rc s q := by
  simp only [evR, List.mem_flatMap, List.mem_map] at h
  obtain ⟨s, -, q, -, rfl⟩ := h
  exact ⟨s, q, rfl⟩

theorem creds (c : Dev nD) : (Pipeline.launchCred O₀ c : sProp 𝕄) ⊢ gAs m c crI := by
  unfold Pipeline.launchCred
  refine BIBase.Entails.trans (bigSep_subset (Finset.subset_univ crS.toFinset)) ?_
  rw [bigSep_eq_bigSepL_of_eq crS rfl crS_nodup]
  unfold crS crI
  rw [bigSepL_cons', bigSepL_map, gAs_cons, launch_bar]
  unfold gAs
  rw [bigSepL_map]
  refine sep_mono_right (bigSepL_mono fun e he => ?_)
  obtain ⟨s, q, rfl⟩ := evR_rc e he
  exact Entails.of_eq (congrArg cred (launch_rc c s q))

end Cert.KernelIdeal.RS

end
-- ==== Proof.Main.lean ====
/- The run of the whole mesh: it ends, the argument is unchanged, the result holds the sums, every semaphore is back at zero. -/
module

public import proofs.«01_k».proof.Proof.Launch
public import Idealize.ShloMosaic.Lib.Pipeline.CollectiveSegs
public import Idealize.ShloMosaic.Lib.Pipeline.FrameBody

@[expose] public section

set_option maxRecDepth 16384

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What a device brings to the body, its buffers apart. -/
def start (c : Dev nD) : sProp 𝕄 :=
  iprop(G' m c ∗ gAs m c crI ∗ levAts L lv ∗ ((c : Thread nD τ).loc main_arg0 ↦{fullShare} m ((c : Thread nD τ).loc main_arg0))
    ∗ ((c : Thread nD τ).loc main_v1 ↦{fullShare} m ((c : Thread nD τ).loc main_v1)))

/-- The argument, of which a share was never lent, and the result. -/
def result (c : Dev nD) : sProp 𝕄 :=
  iprop(((c : Thread nD τ).loc main_arg0 ↦{xsh 44} m ((c : Thread nD τ).loc main_arg0))
    ∗ ∃ g, ⌜IsOut m c g⌝ ∗ ((c : Thread nD τ).loc main_v1 ↦{fullShare} g))

def zeros (c : Dev nD) : sProp 𝕄 :=
  iprop(Pipeline.ownSems0 (Ix := Unit) (Name := ℕ) (U := UU) (Lvl := ℕ) (Val := Elt F) (τ := τ) osem c ∗ unscopedSems0 c)

def Φ₀ (c : Dev nD) : sProp 𝕄 := iprop(start m c ∗ bufs c)
def Φ₁ (c : Dev nD) : sProp 𝕄 := iprop(bufs c ∗ result m c ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem goes_some : ∃ A, run script atI owL = some (A, []) ∧ takeAll atE A = some [] := by
  have h := goes_eq
  unfold goes at h
  split at h
  · next A hA =>
    split at h
    · next hB => exact ⟨A, hA, hB⟩
    · exact absurd h (by simp)
  · exact absurd h (by simp)

/-- From a device's start to the pieces that the script works with. -/
theorem pieces (c : Dev nD) : Φ₀ m c ⊢ iprop(∃ K, Inv m K ∗ gAs m c atI ∗ ((c : Thread nD τ).loc main_arg0 ↦{xsh 44} m ((c : Thread nD τ).loc main_arg0))) := by
  unfold Φ₀ start G'
  iintro ⟨⟨⟨%K, #HI, HG⟩, HC, #HL, HX, HY⟩, HB⟩
  ihave HX := (x_split m c) $$ HX
  icases HX with ⟨HX, Hk⟩
  ihave HY := (y_split m c _) $$ HY
  ihave HB := (bufs_split m c) $$ HB
  icases HB with ⟨HB, H0, H1, H2⟩
  iexists K
  isplitr
  · unfold Inv Cells
    isplitr
    · iexact HI
    · iexact HL
  isplitr [Hk]
  · unfold atI memI
    simp only [gAs_append, List.map_append, gAs_mem]
    isplitr [HG HC]
    · isplitl [HX]; · iexact HX
      isplitl [HB]; · iexact HB
      isplitl [H0]; · iexact H0
      isplitl [H1]; · iexact H1
      isplitl [H2]; · iexact H2
      iexact HY
    · icases HG with ⟨HG, HT⟩
      isplitl [HG]; · iexact HG
      isplitl [HT]; · iexact HT
      iexact HC
  · iexact Hk

/-- Every semaphore's rounds are over: its counter is the device's again, at zero. -/
theorem close (K : Dev nD × SemLoc sig → ℕ) (c : Dev nD) : iprop(Inv m K ∗ gAs m c posE) ⊢ |={Set.univ}=> (zeros c : sProp 𝕄) := by
  have hd : ∀ k : Fin 70, iprop(Inv m K ∗ gA m c (.pos k (rEnd k.val))) ⊢ |={Set.univ}=> (semVal ((c : Thread nD τ), osem k) 0 : sProp 𝕄) := fun k => by
    simp only [gA]
    iintro ⟨#HI, HP, -⟩
    ihave #Hc := (Inv_cell m K c (.dma k)) $$ HI
    icases Hc with ⟨#Hc, -⟩
    imod (Rounds.cell_close ER (sched m) (Set.mem_univ (K (c, .dma k))) (fun h => h) (R := rEnd k.val) (duties_end m c k)) $$ [HP] with Hz
    · isplitr; · iexact Hc
      iexact HP
    imodintro
    iexact Hz
  have hl : ∀ l : List (Fin 70), iprop(Inv m K ∗ bigSepL l fun k => gA m c (.pos k (rEnd k.val)))
      ⊢ |={Set.univ}=> (bigSepL l fun k => semVal ((c : Thread nD τ), osem k) 0 : sProp 𝕄) := fun l => by
    induction l with
    | nil =>
      iintro ⟨-, H⟩
      imodintro
      iexact H
    | cons k l ih =>
      rw [bigSepL_cons', bigSepL_cons']
      iintro ⟨#HI, H1, H2⟩
      imod (hd k) $$ [H1] with H1
      · isplitr; · iexact HI
        iexact H1
      imod ih $$ [H2] with H2
      · isplitr; · iexact HI
        iexact H2
      imodintro
      isplitl [H1] <;> iassumption
  unfold zeros posE
  rw [ownSems0_eq, unscopedSems0_eq, gAs_cons]
  unfold gAs
  rw [bigSepL_map]
  simp only [show gA m c (.posB 1) = (atPos ER (barCell c) 1 ∅ 0 : sProp 𝕄) from rfl]
  iintro ⟨#HI, HB, HP⟩
  ihave #Hc := (Inv_cell m K c (.reg barS)) $$ HI
  icases Hc with ⟨#Hc, -⟩
  imod (Rounds.cell_close ER (sched m) (Set.mem_univ (K (c, .reg barS))) (fun h => h) (R := 1) (duties_bar_end m c)) $$ [HB] with Hz
  · isplitr; · iexact Hc
    iexact HB
  imod (hl (List.finRange 70)) $$ [HP] with HP
  · isplitr; · iexact HI
    iexact HP
  imodintro
  isplitl [HP] <;> iassumption

/-- From the pieces that the script leaves to a device's end. -/
theorem ends (K : Dev nD × SemLoc sig → ℕ) (c : Dev nD) :
    iprop(Inv m K ∗ gAs m c atE ∗ ((c : Thread nD τ).loc main_arg0 ↦{xsh 44} m ((c : Thread nD τ).loc main_arg0))) ⊢ |={Set.univ}=> Φ₁ m c := by
  unfold atE memE Φ₁ result
  simp only [gAs_append, List.map_append, gAs_mem]
  iintro ⟨#HI, ⟨⟨HB, H0, H1, H2, HY⟩, HP⟩, HX⟩
  imod (close m K c) $$ [HP] with Hz
  · isplitr; · iexact HI
    iexact HP
  imodintro
  isplitl [HB H0 H1 H2]
  · iapply (bufs_join m c)
    isplitl [HB]; · iexact HB
    isplitl [H0]; · iexact H0
    isplitl [H1] <;> iassumption
  isplitr [Hz]
  · isplitl [HX]; · iexact HX
    iapply (y_join m c); iexact HY
  · iexact Hz

theorem bigSep_W (Φ : Fin 0 → sProp 𝕄) : bigSep Finset.univ Φ = iprop(emp) := bigSep_empty

/-- What a program leaves alone is there at its end. -/
theorem wp_keep (c : Dev nD) (p : Prog (TpuEff nD τ sig (Elt F) Λ₀ .tc) PUnit) {A P Q Q' : sProp 𝕄} (h : A ⊢ WP c p (fun _ => Q))
    (hk : iprop(P ∗ Q) ⊢ |={Set.univ}=> Q') : iprop(P ∗ A) ⊢ WP c p (fun _ => Q') := by
  have h1 : iprop(P ∗ WP c p (fun _ => Q)) ⊢ WP c p (fun _ => iprop(P ∗ Q)) := wp_frame_l _ _ _
  have h2 : WP c p (fun _ => iprop(P ∗ Q)) ⊢ WP c p (fun _ => iprop(|={Set.univ}=> Q')) := wp_mono _ _ _ fun _ => hk
  exact BIBase.Entails.trans (sep_mono_right h) (BIBase.Entails.trans h1 (BIBase.Entails.trans h2 (wp_fupd (Fr := frame) (wpE := wpE (defs₀ (F := F)) 𝒱₀ (c : Thread nD τ) none) (E := Set.univ) p fun _ => Q')))

/-- The body, as the pipeline calls it. -/
abbrev called : Prog (TpuEff nD τ sig (Elt F) Λ₀ .tc) PUnit := defs₀ .tc cfg0.body (cfg0.bodyArgs t0_0 (cfg0.slots t0_0))

theorem called_eq : called (F := F) = .op .deviceId fun d => Pipeline.chain (script.map (prog d)) :=
  Eq.trans (b := bodyAt0 t0_0) rfl (body_eq t0_0)

/-- A list of operations that the checker accepts takes a device from its start to its end. -/
theorem list_sound (c : Dev nD) (os : List Op) (A : List Atom) (hA : run os atI owL = some (A, [])) (hE : takeAll atE A = some []) :
    iprop(Φ₀ m c ∗ owE c owL) ⊢ WP c (.op .deviceId fun d => Pipeline.chain (os.map (prog d))) (fun _ => iprop(Φ₁ m c ∗ owE c [])) := by
  have hp : gAs m c A ⊢ gAs m c atE := by
    have := gAs_perm m c (takeAll_perm hE)
    rwa [List.append_nil] at this
  unfold WP
  rw [wp_deviceId]
  have h : ∀ K, iprop((Inv m K ∗ ((c : Thread nD τ).loc main_arg0 ↦{xsh 44} m ((c : Thread nD τ).loc main_arg0))) ∗ (Inv m K ∗ gAs m c atI ∗ owE c owL))
      ⊢ WP c (Pipeline.chain (os.map (prog c))) (fun _ => iprop(Φ₁ m c ∗ owE c [])) := fun K => by
    refine wp_keep c _ (run_sound m K c os atI owL _ hA) ?_
    iintro ⟨⟨#HI, HX⟩, HA, HO⟩
    ihave HA := hp $$ HA
    imod (ends m K c) $$ [HA HX] with H
    · isplitr; · iexact HI
      isplitl [HA] <;> iassumption
    imodintro
    isplitl [H] <;> iassumption
  have hP : iprop(Φ₀ m c ∗ owE c owL) ⊢ iprop(∃ K, (Inv m K ∗ ((c : Thread nD τ).loc main_arg0 ↦{xsh 44} m ((c : Thread nD τ).loc main_arg0)))
      ∗ (Inv m K ∗ gAs m c atI ∗ owE c owL)) := by
    iintro ⟨H, HO⟩
    ihave H := (pieces m c) $$ H
    icases H with ⟨%K, #HI, HA, HX⟩
    iexists K
    isplitl [HX]
    · isplitr; · iexact HI
      iexact HX
    isplitr; · iexact HI
    isplitl [HA] <;> iassumption
  exact BIBase.Entails.trans hP (exists_elim h)

theorem body_sound (c : Dev nD) : iprop(Φ₀ m c ∗ owE c owL) ⊢ WP c called (fun _ => iprop(Φ₁ m c ∗ owE c [])) := by
  obtain ⟨A, hA, hE⟩ := goes_some
  rw [called_eq]
  exact list_sound m c script A hA hE

theorem obligation (c : Dev nD) (p : Prog (TpuEff nD τ sig (Elt F) Λ₀ .tc) PUnit)
    (h : iprop(Φ₀ m c ∗ owE c owL) ⊢ WP c p (fun _ => iprop(Φ₁ m c ∗ owE c []))) :
    iprop((dats m 0 c).Φ t0_0.castSucc ∗ (dats m 0 c).owesAt () t0_0.castSucc ∗ emp)
      ⊢ WP c p (fun _ => iprop((dats m 0 c).Φ t0_0.succ ∗ (dats m 0 c).owesAt () t0_0.succ ∗ emp)) := by
  rw [show (dats m 0 c).Φ t0_0.castSucc = Φ₀ m c from rfl, show (dats m 0 c).Φ t0_0.succ = Φ₁ m c from rfl]
  have h0 : iprop(Φ₀ m c ∗ (dats m 0 c).owesAt () t0_0.castSucc ∗ emp) ⊢ iprop(Φ₀ m c ∗ owE c owL) := by
    unfold owE Dat.owesAt Pipeline.owesWithin
    iintro ⟨H, ⟨%W, -, HO⟩, -⟩
    isplitl [H]; · iexact H
    iexists W; iexact HO
  have h1 : iprop(Φ₁ m c ∗ owE c []) ⊢ iprop(Φ₁ m c ∗ (dats m 0 c).owesAt () t0_0.succ ∗ emp) := by
    unfold owE Dat.owesAt Pipeline.owesWithin
    iintro ⟨H, %W, HO⟩
    isplitl [H]; · iexact H
    isplitl [HO]
    · iexists W
      isplitr; · ipureintro; exact fun _ _ => Or.inl trivial
      iexact HO
    iempintro
  exact BIBase.Entails.trans h0 (BIBase.Entails.trans h (wp_mono _ _ _ fun _ => h1))

theorem body_obligation (c : Dev nD) : BodyObligation (dats m 0 c) (defs₀ (F := F)) 𝒱₀ () Set.univ := fun t => by
  rw [fin_N0 t, bigSep_W, bigSep_W]
  exact triple_restated (obligation m c _ (body_sound m c)) rfl .rfl fun _ => .rfl

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HX, HY⟩, Hlev, Hcr, -, HG⟩
  ihave Hc := (creds m c) $$ Hcr
  imodintro
  unfold start
  isplitl
  · isplitl [HG]; · iexact HG
    isplitl [Hc]; · iexact Hc
    isplitl [Hlev]; · iexact Hlev
    isplitl [HX] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ bufs
  iintro ⟨Hs, -, Hr⟩
  isplitl [Hs] <;> iassumption

theorem phi1_exit (c : Dev nD) :
    (dats m 0 c).Φ (Fin.last cfg0.N) ⊢ iprop((unscopedSems0 c ∗ result m c) ∗ Pipeline.ownSems0 osem c ∗ Pipeline.scopedRest cfg0.spec c) := by
  rw [show (dats m 0 c).Φ (Fin.last cfg0.N) = Φ₁ m c from rfl]
  unfold Φ₁ bufs zeros
  iintro ⟨HB, HR, Hos, Hus⟩
  isplitl [HR Hus]
  · isplitl [Hus] <;> iassumption
  isplitl [Hos] <;> iassumption

theorem waits (c : Dev nD) : (levAts L lv : sProp 𝕄) ⊢ Pipeline.cellsWaits cfgs (dats m) () 0 c :=
  Pipeline.cellsWaits_intro cfgs (dats m) () 0 c fun w _ _ => w.elim0

/-! ## The run -/

/-- What a device's memory is at the end. -/
def Ends (c : Dev nD) (s : MemSt nD τ sig (Elt F)) : Prop :=
  s.mem ((c : Thread nD τ).loc main_arg0) = m ((c : Thread nD τ).loc main_arg0) ∧ IsOut m c (s.mem ((c : Thread nD τ).loc main_v1))

theorem read_end (c : Dev nD) (s' : Phys nD τ sig (Elt F)) :
    iprop((unscopedSems0 c ∗ result m c) ∗ emp ∗ SI s') ⊢ |={Set.univ}=> iprop(⌜Ends m c s'.mem ∧ ∀ sm : SemLoc sig, sm.isScoped .tc = false → s'.mem.sem ((c.tc : Thread nD τ), sm) = 0⌝ ∗ SI s') := by
  unfold result
  iintro ⟨⟨Hu, HX, %g, %hg, HY⟩, -, HSI⟩
  imod (Pipeline.unscopedSems0_read (X := unscopedSems0 c) (c := c) fupd_intro s') $$ [Hu HSI] with ⟨%hs, HSI⟩
  · isplitl [Hu] <;> iassumption
  icombine HSI HX gives %hx
  icombine HSI HY gives %hy
  imodintro
  isplitr
  · ipureintro
    refine ⟨⟨Buf.eq_of_forall_mem_univ hx, ?_⟩, hs⟩
    rw [Buf.eq_of_forall_mem_univ hy]
    exact hg
  · iexact HSI

/-- For any float values, from any memory with every counter at zero: every fair run of the mesh ends, with the argument unchanged,
    every sum in its place in the result and every counter at zero again. -/
theorem run_main : θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(unscopedSems0 c ∗ result m c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdeal.RS

end
-- ==== Proof.Value.lean ====
/- What the run leaves in the result, in exact arithmetic: at every place the device's own value plus the value at the
   same place of a device across the x axis. -/
module

public import proofs.«01_k».proof.Proof.Main
public import Idealize.ShloMosaic.PureOps.Ideal

@[expose] public section

set_option maxRecDepth 16384

noncomputable section

namespace Cert.KernelIdeal.RS

open Idealize.ShloMosaic Idealize.ShloMosaic.TcCoe
open Idealize.SL Idealize.SL.Sem
open Cert.KernelIdeal.Gen

section Chunks
variable {F : FTy → Type} [FloatOps F]
variable (m : (ℓ : Loc nD τ sig) → Buf (Elt F) ℓ)

/-! ## Where a received chunk comes from -/

/-- The device whose `x` a received chunk was cast from, and which of its chunks it is. -/
def orgZ (c : Dev nD) (q : Fin 12) : Dev nD × Fin 12 :=
  match q.val % 3 with
  | 2 => (peer .x (peer .y (peer .z c)), ySrc (at' .y (2 * (q.val / 3))))
  | _ => (peer .x (peer .z c), q)

def org (c : Dev nD) : (s : Str) → Fin (len s) → Dev nD × Fin 12
  | .x, q => (peer .x c, q)
  | .y, q => (peer .x (peer .y c), ySrc q)
  | .z, q => orgZ c q

theorem rv_org (c : Dev nD) (s : Str) (q : Fin (len s)) : rv m c s q = svX m (org c s q).1 (org c s q).2 := by
  cases s with
  | x => rfl
  | y => rfl
  | z =>
    show svZ m (peer .z c) q = svX m (orgZ c q).1 (orgZ c q).2
    unfold svZ orgZ
    generalize q.val % 3 = r
    rcases r with _ | _ | _ | _ <;> rfl

/-- That device lies across the x axis, and the chunk lies where the device's own does: in the rows that the sum is
    stored to, and in the half of the columns that the device keeps. -/
theorem org_across (c : Dev nD) (s : Str) (p : Fin (len s)) : (org c s (ord s p)).1.val / 4 = 1 - c.val / 4 := by
  revert c p; cases s <;> decide +kernel

theorem org_place (c : Dev nD) (s : Str) (p : Fin (len s)) :
    offC (org c s (ord s p)).1 (org c s (ord s p)).2 1 = 256 * rowB c ⟨s, p⟩
      ∧ offC (org c s (ord s p)).1 (org c s (ord s p)).2 2 = 1024 * (c.val / 4) := by
  revert c p; cases s <;> decide +kernel

theorem own_place (c : Dev nD) (s : Str) (p : Fin (len s)) :
    offL c s (ord s p) 1 = 256 * rowB c ⟨s, p⟩ ∧ offL c s (ord s p) 2 = 1024 * (c.val / 4) := by
  revert c p; cases s <;> decide +kernel

/-! ## A chunk at an index -/

/-- A chunk of `x` at an index is `x` there. -/
theorem xv_at (c : Dev nD) (off : Fin 3 → ℕ) (h : ∀ a, off a + S1x256x1024.size a ≤ S1x8192x2048.size a) (i : S256x1024.Idx)
    (k : S1x8192x2048.Idx) (h1 : (k 1).val = off 1 + (i 0).val) (h2 : (k 2).val = off 2 + (i 1).val) :
    xv m c off h i = m ((c : Thread nD τ).loc main_arg0) k := by
  have hr : (i 0).val < 256 := (i 0).isLt
  have hc : (i 1).val < 1024 := (i 1).isLt
  have h0 : off 0 + 1 ≤ 1 := h 0
  have hk0 : (k 0).val < 1 := (k 0).isLt
  let j : S1x256x1024.Idx := fun | ⟨0, _⟩ => ⟨0, Nat.one_pos⟩ | ⟨1, _⟩ => ⟨(i 0).val, hr⟩ | ⟨2, _⟩ => ⟨(i 1).val, hc⟩
  have hj : (S1x256x1024.rowMajor j).val = (S256x1024.rowMajor i).val := by
    rw [Shape.rowMajor_val_three, Shape.rowMajor_val_two]
    show (0 * 256 + (i 0).val) * 1024 + (i 1).val = (i 0).val * 1024 + (i 1).val
    omega
  unfold xv
  rw [Memref.read_squeeze_slice _ _ _ _ shapeCasts_S1x256x1024_S256x1024, shapeCast_apply _ _ i j hj]
  show m ((c : Thread nD τ).loc main_arg0) ((Rect.unit (s := S1x8192x2048) off S1x256x1024.size h).emb j) = _
  refine congrArg _ (Shape.idx3_ext ?_ ?_ ?_)
  · show off 0 + 1 * 0 = (k 0).val
    omega
  · show off 1 + 1 * (i 0).val = (k 1).val
    omega
  · show off 2 + 1 * (i 1).val = (k 2).val
    omega

/-- A chunk of the result at an index is the result there. -/
theorem oPos_at (c : Dev nD) (t : Pos) (g : Buf (Elt F) ((c : Thread nD τ).loc main_v1)) (i : S256x1024.Idx) (y : S8192x1024.Idx)
    (h0 : (y 0).val = 256 * rowB c t + (i 0).val) (h1 : (y 1).val = (i 1).val) : (oPos c t).view.read (Elt F) g i = g y := by
  obtain ⟨hr, hc⟩ := offO_row c t
  show g ((Rect.unit (s := S8192x1024) (offO c t.1 (ord t.1 t.2)) S256x1024.size (offO_inb c t.1 (ord t.1 t.2))).emb i) = g y
  refine congrArg g (funext fun a => Fin.ext ?_)
  fin_cases a
  · show offO c t.1 (ord t.1 t.2) 0 + 1 * (i 0).val = (y 0).val
    omega
  · show offO c t.1 (ord t.1 t.2) 1 + 1 * (i 1).val = (y 1).val
    omega

end Chunks

/-! ## The result -/

variable (m : (ℓ : Loc nD τ sig) → Buf (Elt Ideal) ℓ)

/-- In exact arithmetic the casts are the identity: a sum at an index is the sum of the two values. -/
theorem ov_at (c : Dev nD) (s : Str) (p : Fin (len s)) (i : S256x1024.Idx) :
    ov m c s p i = (lv' m c s p i : EReal)
      + (xv m (org c s (ord s p)).1 (offC (org c s (ord s p)).1 (org c s (ord s p)).2) (offC_inb _ _) i : EReal) := by
  unfold ov
  rw [rv_org]
  rfl

/-- A device's argument at an index, as a number. -/
abbrev xE (d : Dev nD) (k : S1x8192x2048.Idx) : EReal := m ((d : Thread nD τ).loc main_arg0) k

/-- What the result holds at an index: the sum, over the device and one across the x axis, of their values in the same
    row and in the same column of the half that the device keeps. -/
theorem out_at (c : Dev nD) (g : Buf (Elt Ideal) ((c : Thread nD τ).loc main_v1)) (hg : IsOut m c g) (y : S8192x1024.Idx) :
    ∃ d : Dev nD, d.val / 4 = 1 - c.val / 4 ∧ ∀ k : S1x8192x2048.Idx, (k 1).val = (y 0).val → (k 2).val = 1024 * (c.val / 4) + (y 1).val →
      g y = xE m c k + xE m d k := by
  have hy0 : (y 0).val < 8192 := (y 0).isLt
  have hy1 : (y 1).val < 1024 := (y 1).isLt
  obtain ⟨⟨s, p⟩, ht⟩ := oPos_cover c y
  have hb := (oPos_mem c _ y).mp ht
  obtain ⟨ho1, ho2⟩ := own_place c s p
  obtain ⟨hp1, hp2⟩ := org_place c s p
  let i : S256x1024.Idx := fun | ⟨0, _⟩ => ⟨(y 0).val % 256, Nat.mod_lt _ (by decide)⟩ | ⟨1, _⟩ => ⟨(y 1).val, hy1⟩
  have i0 : (i 0).val = (y 0).val % 256 := rfl
  have i1 : (i 1).val = (y 1).val := rfl
  refine ⟨(org c s (ord s p)).1, org_across c s p, fun k hk1 hk2 => ?_⟩
  have h : (oPos c ⟨s, p⟩).view.read (Elt Ideal) g i = ov m c s p i := congrFun (hg ⟨s, p⟩) i
  rw [oPos_at c ⟨s, p⟩ g i y (by omega) i1.symm] at h
  rw [h, ov_at]
  unfold lv'
  rw [xv_at m c _ _ i k (by omega) (by omega), xv_at m _ _ _ i k (by omega) (by omega)]

end Cert.KernelIdeal.RS

end
-- ==== Proof.Ref.lean ====
/- What the reference computes, in exact arithmetic, and that the kernel's result on each device is its part of it. -/
module

public import proofs.«01_k».proof.Proof.Value
public import proofs.«01_k».proof.Proof.Gen.ReferenceIdeal.Run
public import Idealize.ShloMosaic.Lib.Layout
public import Idealize.ShloMosaic.Lib.IdealHost
public import Idealize.ShloMosaic.PureOps.Ideal.Laws

@[expose] public section

set_option maxRecDepth 16384

noncomputable section

namespace Cert.ReferenceIdeal.Sum

open Idealize.ShloMosaic Idealize.ShloMosaic.TcCoe
open Cert.ReferenceIdeal Cert.ReferenceIdeal.Gen

/-- The reference's result of an argument. -/
def total (X : FVec Ideal S2x8192x2048 .f32) : FVec Ideal S8192x2048 .bf16 :=
  truncf .bf16 (Host.reduceAdd X (constant S_ .f32 0x00000000#32) reducesTo_S2x8192x2048_S8192x2048_d0 h_S_) bitsLt_bf16_f32

theorem drops : S2x8192x2048.Reduces [0] S8192x2048 := by decide

/-- At an index it is the sum of the argument's two values there. -/
theorem total_at (X : FVec Ideal S2x8192x2048 .f32) (j : S8192x2048.Idx) (k₀ k₁ : S2x8192x2048.Idx)
    (h00 : (k₀ 0).val = 0) (h01 : (k₀ 1).val = (j 0).val) (h02 : (k₀ 2).val = (j 1).val)
    (h10 : (k₁ 0).val = 1) (h11 : (k₁ 1).val = (j 0).val) (h12 : (k₁ 2).val = (j 1).val) :
    total X j = (X k₀ : EReal) + (X k₁ : EReal) := by
  show Host.reduceAdd X (constant S_ .f32 0x00000000#32) reducesTo_S2x8192x2048_S8192x2048_d0 h_S_ j = _
  rw [ValueIdx.hostReduceAdd_apply, Ideal.hostReduceAdd_single _ drops]
  rw [show (constant (F := Ideal) S_ .f32 0x00000000#32) (Shape.Idx.first h_S_) = (0 : EReal) from Ideal.ofBits_zero_f32, zero_add]
  refine (Fin.sum_univ_two _).trans ?_
  congr 1
  · exact congrArg X (Shape.idx3_ext h00.symm h01.symm h02.symm)
  · exact congrArg X (Shape.idx3_ext h10.symm h11.symm h12.symm)

end Cert.ReferenceIdeal.Sum

namespace Cert.KernelIdeal.RS

open Idealize.ShloMosaic Idealize.ShloMosaic.TcCoe
open Cert.ReferenceIdeal.Sum (total total_at)

/-- A device's part of the argument lies at its x coordinate. -/
theorem arg_at (X : FVec Ideal ⟨3, ![2, 8192, 2048]⟩ .f32) (c : Dev nD) (k : S1x8192x2048.Idx) (l : (⟨3, ![2, 8192, 2048]⟩ : Shape).Idx)
    (h0 : (l 0).val = c.val / 4) (h1 : (l 1).val = (k 1).val) (h2 : (l 2).val = (k 2).val) :
    (Layout.blockN ⟨3, ![1, 8192, 2048]⟩ ⟨3, ![2, 8192, 2048]⟩ (Layout.meshBlock [2, 2, 2] ![[0], [], []] c) X) k = X l := by
  have hc := c.isLt
  have hk : (k 0).val < 1 := (k 0).isLt
  rw [Layout.blockN_apply]
  refine congrArg X (Shape.idx3_ext ?_ ?_ ?_)
  · show (c.val / 4 % 2 * 1 + 0) * 1 + (k 0).val = (l 0).val
    have : c.val < 8 := hc
    omega
  · show 0 * 8192 + (k 1).val = (l 1).val
    omega
  · show 0 * 2048 + (k 2).val = (l 2).val
    omega

/-- From memories that agree on the argument, a device's result is its half of the columns of the reference's. -/
theorem out_eq (m : (ℓ : Loc nD τ sig) → Buf (Elt Ideal) ℓ) (X : FVec Ideal ⟨3, ![2, 8192, 2048]⟩ .f32)
    (hm : ∀ c : Dev nD, m ((c : Thread nD τ).loc main_arg0)
      = Layout.blockN ⟨3, ![1, 8192, 2048]⟩ ⟨3, ![2, 8192, 2048]⟩ (Layout.meshBlock [2, 2, 2] ![[0], [], []] c) X)
    (c : Dev nD) (g : Buf (Elt Ideal) ((c : Thread nD τ).loc main_v1)) (hg : IsOut m c g) :
    g = Layout.blockN ⟨2, ![8192, 1024]⟩ ⟨2, ![8192, 2048]⟩ (Layout.meshBlock [2, 2, 2] ![[], [0]] c) (total X) := by
  funext y
  have hc : c.val < 8 := c.isLt
  have hy0 : (y 0).val < 8192 := (y 0).isLt
  have hy1 : (y 1).val < 1024 := (y 1).isLt
  obtain ⟨d, hd, h⟩ := out_at m c g hg y
  let k : S1x8192x2048.Idx := fun
    | ⟨0, _⟩ => ⟨0, Nat.one_pos⟩ | ⟨1, _⟩ => ⟨(y 0).val, hy0⟩ | ⟨2, _⟩ => ⟨1024 * (c.val / 4) + (y 1).val, by show _ < 2048; omega⟩
  let l (b : Fin 2) : (⟨3, ![2, 8192, 2048]⟩ : Shape).Idx := fun
    | ⟨0, _⟩ => b | ⟨1, _⟩ => ⟨(y 0).val, hy0⟩ | ⟨2, _⟩ => ⟨1024 * (c.val / 4) + (y 1).val, by show _ < 2048; omega⟩
  rw [h k rfl rfl, Layout.blockN_apply,
    total_at X _ (l 0) (l 1) rfl (by show (y 0).val = 0 * 8192 + (y 0).val; omega)
      (by show 1024 * (c.val / 4) + (y 1).val = (c.val / 4 % 2 * 1 + 0) * 1024 + (y 1).val; omega)
      rfl (by show (y 0).val = 0 * 8192 + (y 0).val; omega)
      (by show 1024 * (c.val / 4) + (y 1).val = (c.val / 4 % 2 * 1 + 0) * 1024 + (y 1).val; omega)]
  have hx (d : Dev nD) (b : Fin 2) (hb : d.val / 4 = b.val) : xE m d k = X (l b) :=
    (congrFun (hm d) k).trans (arg_at X d k (l b) hb.symm rfl rfl)
  have hcd : c.val / 4 = 0 ∧ d.val / 4 = 1 ∨ c.val / 4 = 1 ∧ d.val / 4 = 0 := by omega
  rcases hcd with ⟨h0, h1⟩ | ⟨h1, h0⟩
  · rw [hx c 0 h0, hx d 1 h1]
  · rw [hx c 1 h1, hx d 0 h0]
    exact add_comm (G := EReal) _ _

end Cert.KernelIdeal.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Ref
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel ends with its argument and every counter as they were: its text is the idealized kernel's, whose run is over any float values. -/
theorem frame_kernel : Cert.quiescent_Kernel := fun m ρ _ =>
  (θ_run Cert.KernelIdeal.defs _ _).mono (fun _ h => ⟨fun c => (h.1 c).1, h.2⟩) (Cert.KernelIdeal.RS.run_main (F := Bits) m ρ)

/-- So does the idealized kernel. -/
theorem frame_ideal : Cert.quiescent_KernelIdeal := fun m ρ _ =>
  (θ_run Cert.KernelIdeal.defs _ _).mono (fun _ h => ⟨fun c => (h.1 c).1, h.2⟩) (Cert.KernelIdeal.RS.run_main (F := Ideal) m ρ)

/-- So does the reference, which has no counter. -/
theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The reference computes the sum of the argument's two halves; each device of the kernel its part of that. -/
theorem value : Cert.algebraic_KernelIdeal_ReferenceIdeal := fun m ρ m' ρ' _ hm =>
  ⟨Cert.ReferenceIdeal.Sum.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨Cert.KernelIdeal.RS.out_eq m _ hm c _ (h.1 c).2, (h.1 c).1⟩)
      (Cert.KernelIdeal.RS.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_ref, trivial, value⟩

end Cert.Proof

end
